-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v14_0)) (v1 : (c : Dev Cert.Kernel2Ideal.nD) → Buf (Elt Ideal) ((c.tc : Thread Cert.Kernel2Ideal.nD Cert.Kernel2Ideal.τ).loc Cert.Kernel2Ideal.main_v14_1)) (v2 : (c : Dev Cert.Kernel2Ideal.nD) → Buf (Elt Ideal) ((c.tc : Thread Cert.Kernel2Ideal.nD Cert.Kernel2Ideal.τ).loc Cert.Kernel2Ideal.main_v14_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14_0) = v0 c
          ∧ r.2.mem ((c.tc : Thread Cert.Kernel2Ideal.nD Cert.Kernel2Ideal.τ).loc Cert.Kernel2Ideal.main_v14_1) = v1 c
          ∧ r.2.mem ((c.tc : Thread Cert.Kernel2Ideal.nD Cert.Kernel2Ideal.τ).loc Cert.Kernel2Ideal.main_v14_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v76) = v0 c
          ∧ r.2.mem ((c.tc : Thread Cert.Reference2Ideal.nD Cert.Reference2Ideal.τ).loc Cert.Reference2Ideal.main_v78) = v1 c
          ∧ r.2.mem ((c.tc : Thread Cert.Reference2Ideal.nD Cert.Reference2Ideal.τ).loc Cert.Reference2Ideal.main_v80) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v40) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
-- ==== Pre_finite_scores.lean ====
abbrev S8x2048x3072 : Shape := ⟨3, ![8, 2048, 3072]⟩
abbrev S32x4 : Shape := ⟨2, ![32, 4]⟩
abbrev S1x64 : Shape := ⟨2, ![1, 64]⟩
abbrev S1x128 : Shape := ⟨2, ![1, 128]⟩
abbrev S8x2048x1024 : Shape := ⟨3, ![8, 2048, 1024]⟩
abbrev S_ : Shape := ⟨0, ![]⟩

class Facts : Prop where
  slices_S8x2048x3072_S8x2048x1024_0_0_1536 : S8x2048x3072.Slices ![0, 0, 1536] S8x2048x1024
  bitsLt_bf16_f32 : FTy.bits .bf16 < FTy.bits .f32
  bcast_S_S8x2048x1024 : S_.BroadcastsInDim S8x2048x1024 (![] : Fin 0 → Fin S8x2048x1024.rank)
  bcast_S_S32x4 : S_.BroadcastsInDim S32x4 (![] : Fin 0 → Fin S32x4.rank)

variable [Facts]

def fn {F : FTy → Type} [FloatOps F] (main_arg0 : FVec F S8x2048x3072 .bf16) (main_arg1 : FVec F S32x4 .f32) (main_arg2 : FVec F S1x64 .f32) (main_arg3 : FVec F S1x64 .f32) (main_arg4 : FVec F S1x64 .f32) (main_arg5 : FVec F S1x64 .f32) (main_arg6 : FVec F S1x128 .f32) : IVec S8x2048x1024 1 × IVec S32x4 1 :=
  let main_v0 : FVec F S8x2048x1024 .bf16 := (extractStridedSlice S8x2048x1024 ![0, 0, 1536] · slices_S8x2048x3072_S8x2048x1024_0_0_1536) main_arg0
  let main_v1 : FVec F S8x2048x1024 .f32 := (extf .f32 · bitsLt_bf16_f32) main_v0
  let main_v2 : FVec F S8x2048x1024 .f32 := Host.absf main_v1
  let main_cst : FVec F S_ .f32 := constant S_ .f32 0x7F800000#32
  let main_v3 : FVec F S8x2048x1024 .f32 := broadcastInDim S8x2048x1024 ![] bcast_S_S8x2048x1024 main_cst
  let main_v4 : IVec S8x2048x1024 1 := cmpf .olt main_v2 main_v3
  let main_v5 : FVec F S32x4 .f32 := Host.absf main_arg1
  let main_cst_0 : FVec F S_ .f32 := constant S_ .f32 0x7F800000#32
  let main_v6 : FVec F S32x4 .f32 := broadcastInDim S32x4 ![] bcast_S_S32x4 main_cst_0
  let main_v7 : IVec S32x4 1 := cmpf .olt main_v5 main_v6
  (main_v4, main_v7)
-- ==== Kernel.lean ====
abbrev S8x2048x3072 : Shape := ⟨3, ![8, 2048, 3072]⟩
abbrev S32x4 : Shape := ⟨2, ![32, 4]⟩
abbrev S1x64 : Shape := ⟨2, ![1, 64]⟩
abbrev S1x128 : Shape := ⟨2, ![1, 128]⟩
abbrev S128 : Shape := ⟨1, ![128]⟩
abbrev S4x15x256x256 : Shape := ⟨4, ![4, 15, 256, 256]⟩
abbrev S1x1x256x256 : Shape := ⟨4, ![1, 1, 256, 256]⟩
abbrev S256x256 : Shape := ⟨2, ![256, 256]⟩
abbrev S1 : Shape := ⟨1, ![1]⟩
abbrev S8x2048x512 : Shape := ⟨3, ![8, 2048, 512]⟩
abbrev S1x256x128 : Shape := ⟨3, ![1, 256, 128]⟩
abbrev S1x2048x128 : Shape := ⟨3, ![1, 2048, 128]⟩
abbrev S1x15x256x256 : Shape := ⟨4, ![1, 15, 256, 256]⟩
abbrev S256x128 : Shape := ⟨2, ![256, 128]⟩
abbrev S1x1 : Shape := ⟨2, ![1, 1]⟩
abbrev S256x2048 : Shape := ⟨2, ![256, 2048]⟩
abbrev S256 : Shape := ⟨1, ![256]⟩
abbrev S256x1 : Shape := ⟨2, ![256, 1]⟩
abbrev S2048x128 : Shape := ⟨2, ![2048, 128]⟩

abbrev nBuf : Space → Nat
  | .hbm => 10
  | .vmem => 17
  | .smem => 1
  | _ => 0

abbrev bufTy : (tb : Table) → Fin (tcTables nBuf tb) → BufTy
  | .hbm, ⟨0, _⟩ => ⟨S8x2048x3072, .bf16⟩
  | .hbm, ⟨1, _⟩ => ⟨S32x4, .f32⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x128, .f32⟩
  | .hbm, ⟨7, _⟩ => ⟨S128, .f32⟩
  | .hbm, ⟨8, _⟩ => ⟨S4x15x256x256, .f32⟩
  | .hbm, ⟨9, _⟩ => ⟨S8x2048x512, .bf16⟩
  | .local _ .vmem, ⟨0, _⟩ => ⟨S1x1x256x256, .f32⟩
  | .local _ .vmem, ⟨1, _⟩ => ⟨S1x1x256x256, .f32⟩
  | .local _ .vmem, ⟨2, _⟩ => ⟨S1x256x128, .bf16⟩
  | .local _ .vmem, ⟨3, _⟩ => ⟨S1x256x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x15x256x256, .f32⟩
  | .local _ .vmem, ⟨9, _⟩ => ⟨S1x15x256x256, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x128, .f32⟩
  | .local _ .vmem, ⟨15, _⟩ => ⟨S1x256x128, .bf16⟩
  | .local _ .vmem, ⟨16, _⟩ => ⟨S1x256x128, .bf16⟩
  | .local _ .smem, ⟨0, _⟩ => ⟨S128, .f32⟩
  | _, _ => ⟨S8x2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg1_0 : Ref sig .tc := ⟨.vmem, 0, rfl⟩
abbrev cc0_stg1_1 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg8_0 : Ref sig .tc := ⟨.vmem, 14, rfl⟩
abbrev cc1_stg9_0 : Ref sig .tc := ⟨.vmem, 15, rfl⟩
abbrev cc1_stg9_1 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem9_1 : DmaSem sig := 17

abbrev nD : Nat := 1
abbrev τ : Topo := Topo.v7x

variable {F : FTy → Type} [FloatOps F]

abbrev grid0 : Pipeline.Grid := ⟨2, ![4, 15], ![false, false]⟩

def k0_cond1 (i : grid0.Coords) : BitVec 1 :=
  let arg1 : BitVec 32 := BitVec.ofNat 32 (i 1).val
  let c7_i32 : BitVec 32 := 7#32
  let v0 : BitVec 32 := Scalar.subi arg1 c7_i32
  let v1 : BitVec 32 := Scalar.absi v0
  let c1_i32 : BitVec 32 := 1#32
  let v2 : BitVec 1 := Scalar.cmpi .sle v1 c1_i32
  let v3 : BitVec 32 := Scalar.extui v2
  let c0_i32 : BitVec 32 := 0#32
  let v4 : BitVec 1 := Scalar.cmpi .ne v3 c0_i32
  v4

def k0_off1 (i : grid0.Coords) (c0_i32_21 : BitVec 32) : Fin 1 → Nat :=
  let arg0 : BitVec 32 := BitVec.ofNat 32 (i 0).val
  let v71 : BitVec 32 := Scalar.addi c0_i32_21 arg0
  let v72 : Index := Scalar.indexCast v71
  ![v72.toNat]
def k0_cond2 (i : grid0.Coords) : BitVec 1 :=
  let arg1 : BitVec 32 := BitVec.ofNat 32 (i 1).val
  let c7_i32 : BitVec 32 := 7#32
  let v0 : BitVec 32 := Scalar.subi arg1 c7_i32
  let v5 : BitVec 32 := Scalar.absi v0
  let c1_i32_0 : BitVec 32 := 1#32
  let v6 : BitVec 1 := Scalar.cmpi .sgt v5 c1_i32_0
  let v7 : BitVec 32 := Scalar.extui v6
  let c0_i32_1 : BitVec 32 := 0#32
  let v8 : BitVec 1 := Scalar.cmpi .ne v7 c0_i32_1
  v8

def k0_off2 (i : grid0.Coords) (c124_i32 : BitVec 32) : Fin 1 → Nat :=
  let arg0 : BitVec 32 := BitVec.ofNat 32 (i 0).val
  let v10 : BitVec 32 := Scalar.addi c124_i32 arg0
  let v11 : Index := Scalar.indexCast v10
  ![v11.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨3, ![4, 8, 8], ![false, false, false]⟩

def k1_off1 (i : grid1.Coords) (c0_i32_21 : BitVec 32) : Fin 4 → Nat :=
  let c0_22 : Index := 0#32
  let c7_i32 : BitVec 32 := 7#32
  let c1_i32 : BitVec 32 := 1#32
  let arg2 : BitVec 32 := BitVec.ofNat 32 (i 2).val
  let v35 : BitVec 32 := Scalar.muli c1_i32 arg2
  let c0_i32 : BitVec 32 := 0#32
  let v36 : BitVec 32 := Scalar.addi v35 c0_i32
  let v37 : BitVec 32 := Scalar.subi c7_i32 v36
  let v38 : BitVec 32 := Scalar.addi v37 c0_i32_21
  let v39 : Index := Scalar.indexCast v38
  let c0_23 : Index := 0#32
  let c0_24 : Index := 0#32
  ![0, v39.toNat, 0, 0]
def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg0
  let c0_i32 : BitVec 32 := 0#32
  ![arg1.toNat, arg2.toNat, v0.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg0
  let c0_i32 : BitVec 32 := 0#32
  let c0_i32_0 : BitVec 32 := 0#32
  ![arg1.toNat, c0_i32.toNat, v0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg0
  let c0_i32 : BitVec 32 := 0#32
  let c0_i32_0 : BitVec 32 := 0#32
  ![arg1.toNat, c0_i32.toNat, v0.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage1_0 : Fin 2 → Memref sig .tc .vmem S1x256x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x15x256x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false, false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false, false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false, false]

abbrev stage1_9 : Fin 2 → Memref sig .tc .vmem S1x256x128 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true, true]
-- ==== ReferenceIdeal.lean ====
abbrev S8x2048x3072 : Shape := ⟨3, ![8, 2048, 3072]⟩
abbrev S32x4 : Shape := ⟨2, ![32, 4]⟩
abbrev S1x64 : Shape := ⟨2, ![1, 64]⟩
abbrev S1x128 : Shape := ⟨2, ![1, 128]⟩
abbrev S8x2048x512 : Shape := ⟨3, ![8, 2048, 512]⟩
abbrev S8x2048x4x2x64 : Shape := ⟨5, ![8, 2048, 4, 2, 64]⟩
abbrev S8x2048x4x128 : Shape := ⟨4, ![8, 2048, 4, 128]⟩
abbrev S64 : Shape := ⟨1, ![64]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2048x2048x1 : Shape := ⟨3, ![2048, 2048, 1]⟩
abbrev S2048x2048x4 : Shape := ⟨3, ![2048, 2048, 4]⟩
abbrev S4x2048x2048 : Shape := ⟨3, ![4, 2048, 2048]⟩
abbrev S8x4x2x2048x2048 : Shape := ⟨5, ![8, 4, 2, 2048, 2048]⟩
abbrev S1x4x1x2048x2048 : Shape := ⟨5, ![1, 4, 1, 2048, 2048]⟩
abbrev S8x4x2x2048 : Shape := ⟨4, ![8, 4, 2, 2048]⟩
abbrev S8x4x2x2048x1 : Shape := ⟨5, ![8, 4, 2, 2048, 1]⟩
abbrev S8x4x1x2048x2048 : Shape := ⟨5, ![8, 4, 1, 2048, 2048]⟩
abbrev S8x4x2048x2048 : Shape := ⟨4, ![8, 4, 2048, 2048]⟩
abbrev S8x4x128x2048 : Shape := ⟨4, ![8, 4, 128, 2048]⟩
abbrev S8x2048x4 : Shape := ⟨3, ![8, 2048, 4]⟩
abbrev S8x2048x4x1 : Shape := ⟨4, ![8, 2048, 4, 1]⟩
abbrev S128 : Shape := ⟨1, ![128]⟩
abbrev S1x1x1x128 : Shape := ⟨4, ![1, 1, 1, 128]⟩

abbrev nBuf : Space → Nat
  | .hbm => 134
  | .vmem => 0
  | .smem => 0
  | _ => 0

abbrev hbmTy0_0 (i : Nat) : BufTy := match i % 128 with
  | 0 => ⟨S8x2048x3072, .bf16⟩
  | 1 => ⟨S32x4, .f32⟩
  | 2 => ⟨S1x64, .f32⟩
  | 3 => ⟨S1x64, .f32⟩
  | 4 => ⟨S1x64, .f32⟩
  | 5 => ⟨S1x64, .f32⟩
  | 6 => ⟨S1x128, .f32⟩
  | 7 => ⟨S8x2048x3072, .f32⟩
  | 8 => ⟨S8x2048x512, .f32⟩
  | 9 => ⟨S8x2048x4x2x64, .f32⟩
  | 10 => ⟨S8x2048x512, .f32⟩
  | 11 => ⟨S8x2048x4x2x64, .f32⟩
  | 12 => ⟨S8x2048x512, .f32⟩
  | 13 => ⟨S8x2048x4x128, .f32⟩
  | 14 => ⟨S64, .f32⟩
  | 15 => ⟨S64, .f32⟩
  | 16 => ⟨S64, .f32⟩
  | 17 => ⟨S_, .f32⟩
  | 18 => ⟨S_, .f32⟩
  | 19 => ⟨S_, .f32⟩
  | 20 => ⟨S64, .f32⟩
  | 21 => ⟨S64, .f32⟩
  | 22 => ⟨S64, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S2048, .i32⟩
  | 30 => ⟨S1x2048, .i32⟩
  | 31 => ⟨S2048x1, .i32⟩
  | 32 => ⟨S2048x2048, .i32⟩
  | 33 => ⟨S2048x2048, .i32⟩
  | 34 => ⟨S2048x2048, .i32⟩
  | 35 => ⟨S_, .i32⟩
  | 36 => ⟨S2048x2048, .i32⟩
  | 37 => ⟨S2048x2048, .i1⟩
  | 38 => ⟨S_, .i32⟩
  | 39 => ⟨S_, .i32⟩
  | 40 => ⟨S2048x2048, .i32⟩
  | 41 => ⟨S2048x2048, .i32⟩
  | 42 => ⟨S2048x2048, .i32⟩
  | 43 => ⟨S2048x2048, .i32⟩
  | 44 => ⟨S_, .i32⟩
  | 45 => ⟨S2048x2048, .i32⟩
  | 46 => ⟨S2048x2048, .i32⟩
  | 47 => ⟨S2048x2048, .f32⟩
  | 48 => ⟨S_, .f32⟩
  | 49 => ⟨S2048x2048, .f32⟩
  | 50 => ⟨S2048x2048, .f32⟩
  | 51 => ⟨S2048x2048, .f32⟩
  | 52 => ⟨S_, .f32⟩
  | 53 => ⟨S_, .f32⟩
  | 54 => ⟨S2048x2048, .f32⟩
  | 55 => ⟨S2048x2048, .f32⟩
  | 56 => ⟨S_, .f32⟩
  | 57 => ⟨S2048x2048, .f32⟩
  | 58 => ⟨S2048x2048, .f32⟩
  | 59 => ⟨S2048x2048, .i32⟩
  | 60 => ⟨S_, .i32⟩
  | 61 => ⟨S2048x2048, .i32⟩
  | 62 => ⟨S2048x2048, .i32⟩
  | 63 => ⟨S_, .i32⟩
  | 64 => ⟨S2048x2048, .i32⟩
  | 65 => ⟨S2048x2048, .i32⟩
  | 66 => ⟨S_, .i32⟩
  | 67 => ⟨S2048x2048, .i32⟩
  | 68 => ⟨S2048x2048, .i1⟩
  | 69 => ⟨S2048x2048, .i32⟩
  | 70 => ⟨S2048x2048, .i32⟩
  | 71 => ⟨S2048x2048, .i32⟩
  | 72 => ⟨S_, .i32⟩
  | 73 => ⟨S2048x2048, .i32⟩
  | 74 => ⟨S2048x2048, .i1⟩
  | 75 => ⟨S_, .i32⟩
  | 76 => ⟨S2048x2048, .i32⟩
  | 77 => ⟨S2048x2048, .i32⟩
  | 78 => ⟨S2048x2048, .i32⟩
  | 79 => ⟨S2048x2048x1, .i32⟩
  | 80 => ⟨S2048x2048x4, .f32⟩
  | 81 => ⟨S4x2048x2048, .f32⟩
  | 82 => ⟨S8x4x2x2048x2048, .f32⟩
  | 83 => ⟨S_, .f32⟩
  | 84 => ⟨S8x4x2x2048x2048, .f32⟩
  | 85 => ⟨S8x4x2x2048x2048, .f32⟩
  | 86 => ⟨S1x4x1x2048x2048, .f32⟩
  | 87 => ⟨S8x4x2x2048x2048, .f32⟩
  | 88 => ⟨S8x4x2x2048x2048, .f32⟩
  | 89 => ⟨S_, .f32⟩
  | 90 => ⟨S8x4x2x2048, .f32⟩
  | 91 => ⟨S_, .f32⟩
  | 92 => ⟨S8x4x2x2048, .f32⟩
  | 93 => ⟨S8x4x2x2048, .f32⟩
  | 94 => ⟨S8x4x2x2048x1, .f32⟩
  | 95 => ⟨S8x4x2x2048x2048, .f32⟩
  | 96 => ⟨S8x4x2x2048x2048, .f32⟩
  | 97 => ⟨S8x4x2x2048x2048, .f32⟩
  | 98 => ⟨S_, .f32⟩
  | 99 => ⟨S8x4x2x2048, .f32⟩
  | 100 => ⟨S8x4x2x2048x1, .f32⟩
  | 101 => ⟨S8x4x2x2048x2048, .f32⟩
  | 102 => ⟨S8x4x2x2048x2048, .f32⟩
  | 103 => ⟨S8x4x1x2048x2048, .f32⟩
  | 104 => ⟨S8x4x2048x2048, .f32⟩
  | 105 => ⟨S8x4x1x2048x2048, .f32⟩
  | 106 => ⟨S8x4x2048x2048, .f32⟩
  | 107 => ⟨S8x4x2048x2048, .f32⟩
  | 108 => ⟨S8x4x2048x2048, .f32⟩
  | 109 => ⟨S8x4x2048x2048, .f32⟩
  | 110 => ⟨S8x4x128x2048, .f32⟩
  | 111 => ⟨S8x2048x4x128, .f32⟩
  | 112 => ⟨S8x2048x4x128, .f32⟩
  | 113 => ⟨S_, .f32⟩
  | 114 => ⟨S8x2048x4, .f32⟩
  | 115 => ⟨S8x2048x4x1, .f32⟩
  | 116 => ⟨S_, .f32⟩
  | 117 => ⟨S8x2048x4x1, .f32⟩
  | 118 => ⟨S8x2048x4x1, .f32⟩
  | 119 => ⟨S_, .f32⟩
  | 120 => ⟨S8x2048x4x1, .f32⟩
  | 121 => ⟨S8x2048x4x1, .f32⟩
  | 122 => ⟨S8x2048x4x1, .f32⟩
  | 123 => ⟨S8x2048x4x128, .f32⟩
  | 124 => ⟨S8x2048x4x128, .f32⟩
  | 125 => ⟨S128, .f32⟩
  | 126 => ⟨S1x1x1x128, .f32⟩
  | 127 => ⟨S8x2048x4x128, .f32⟩
  | _ => ⟨S8x2048x3072, .bf16⟩

abbrev hbmTy0_1 (i : Nat) : BufTy := match i % 128 with
  | 0 => ⟨S8x2048x4x128, .f32⟩
  | 1 => ⟨S_, .f32⟩
  | 2 => ⟨S8x2048x4x128, .f32⟩
  | 3 => ⟨S8x2048x4x128, .f32⟩
  | 4 => ⟨S8x2048x4x128, .bf16⟩
  | 5 => ⟨S8x2048x512, .bf16⟩
  | _ => ⟨S8x2048x3072, .bf16⟩

abbrev hbmTy (i : Nat) : BufTy := match i / 128 with
  | 0 => hbmTy0_0 i
  | 1 => hbmTy0_1 i
  | _ => ⟨S8x2048x3072, .bf16⟩

abbrev bufTy : (tb : Table) → Fin (tcTables nBuf tb) → BufTy
  | .hbm, ⟨i, _⟩ => hbmTy i
  | _, _ => ⟨S8x2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c : Ref sig .tc := ⟨.hbm, 35, rfl⟩
abbrev main_v25 : Ref sig .tc := ⟨.hbm, 36, rfl⟩
abbrev main_v26 : Ref sig .tc := ⟨.hbm, 37, rfl⟩
abbrev main_c_2 : Ref sig .tc := ⟨.hbm, 38, rfl⟩
abbrev main_c_3 : Ref sig .tc := ⟨.hbm, 39, rfl⟩
abbrev main_call0_v0 : Ref sig .tc := ⟨.hbm, 40, rfl⟩
abbrev main_call0_v1 : Ref sig .tc := ⟨.hbm, 41, rfl⟩
abbrev main_v27 : Ref sig .tc := ⟨.hbm, 42, rfl⟩
abbrev main_v28 : Ref sig .tc := ⟨.hbm, 43, rfl⟩
abbrev main_c_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_8 : Ref sig .tc := ⟨.hbm, 60, rfl⟩
abbrev main_v41 : Ref sig .tc := ⟨.hbm, 61, rfl⟩
abbrev main_v42 : Ref sig .tc := ⟨.hbm, 62, rfl⟩
abbrev main_c_9 : Ref sig .tc := ⟨.hbm, 63, rfl⟩
abbrev main_v43 : Ref sig .tc := ⟨.hbm, 64, rfl⟩
abbrev main_v44 : Ref sig .tc := ⟨.hbm, 65, rfl⟩
abbrev main_c_10 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_11 : Ref sig .tc := ⟨.hbm, 72, rfl⟩
abbrev main_v50 : Ref sig .tc := ⟨.hbm, 73, rfl⟩
abbrev main_v51 : Ref sig .tc := ⟨.hbm, 74, rfl⟩
abbrev main_c_12 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_13 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_14 : Ref sig .tc := ⟨.hbm, 89, rfl⟩
abbrev main_v64 : Ref sig .tc := ⟨.hbm, 90, rfl⟩
abbrev main_cst_15 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_16 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_17 : Ref sig .tc := ⟨.hbm, 113, rfl⟩
abbrev main_v85 : Ref sig .tc := ⟨.hbm, 114, rfl⟩
abbrev main_v86 : Ref sig .tc := ⟨.hbm, 115, rfl⟩
abbrev main_cst_18 : Ref sig .tc := ⟨.hbm, 116, rfl⟩
abbrev main_v87 : Ref sig .tc := ⟨.hbm, 117, rfl⟩
abbrev main_v88 : Ref sig .tc := ⟨.hbm, 118, rfl⟩
abbrev main_cst_19 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_cst_20 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩

abbrev nD : Nat := 1
abbrev τ : Topo := Topo.v7x

variable {F : FTy → Type} [FloatOps F]
-- ==== Kernel2.lean ====
abbrev S8x2048x512 : Shape := ⟨3, ![8, 2048, 512]⟩
abbrev S8x2048x1024 : Shape := ⟨3, ![8, 2048, 1024]⟩
abbrev S8x6144 : Shape := ⟨2, ![8, 6144]⟩
abbrev S1x1024x1024 : Shape := ⟨3, ![1, 1024, 1024]⟩
abbrev S1x1024 : Shape := ⟨2, ![1, 1024]⟩
abbrev S1x1024x2048 : Shape := ⟨3, ![1, 1024, 2048]⟩
abbrev S1x2x128x128 : Shape := ⟨4, ![1, 2, 128, 128]⟩
abbrev S16384x512 : Shape := ⟨2, ![16384, 512]⟩
abbrev S1024x1024 : Shape := ⟨2, ![1024, 1024]⟩
abbrev S16384x1024 : Shape := ⟨2, ![16384, 1024]⟩
abbrev S8x6x1x1024 : Shape := ⟨4, ![8, 6, 1, 1024]⟩
abbrev S1024 : Shape := ⟨1, ![1024]⟩
abbrev S1024x2048 : Shape := ⟨2, ![1024, 2048]⟩
abbrev S2x128x128 : Shape := ⟨3, ![2, 128, 128]⟩
abbrev S16x128x16384 : Shape := ⟨3, ![16, 128, 16384]⟩
abbrev S512x512 : Shape := ⟨2, ![512, 512]⟩
abbrev S512x1024 : Shape := ⟨2, ![512, 1024]⟩
abbrev S1x1x1x1024 : Shape := ⟨4, ![1, 1, 1, 1024]⟩
abbrev S16x128x512 : Shape := ⟨3, ![16, 128, 512]⟩
abbrev S512 : Shape := ⟨1, ![512]⟩
abbrev S512x1 : Shape := ⟨2, ![512, 1]⟩
abbrev S512x2048 : Shape := ⟨2, ![512, 2048]⟩
abbrev S1x128x128 : Shape := ⟨3, ![1, 128, 128]⟩
abbrev S128x128 : Shape := ⟨2, ![128, 128]⟩
abbrev S512x128 : Shape := ⟨2, ![512, 128]⟩
abbrev S128x512 : Shape := ⟨2, ![128, 512]⟩
abbrev S1x128x512 : Shape := ⟨3, ![1, 128, 512]⟩

abbrev nBuf : Space → Nat
  | .hbm => 26
  | .vmem => 23
  | .smem => 0
  | _ => 0

abbrev bufTy : (tb : Table) → Fin (tcTables nBuf tb) → BufTy
  | .hbm, ⟨0, _⟩ => ⟨S8x2048x512, .bf16⟩
  | .hbm, ⟨1, _⟩ => ⟨S8x2048x512, .bf16⟩
  | .hbm, ⟨2, _⟩ => ⟨S8x2048x1024, .f32⟩
  | .hbm, ⟨3, _⟩ => ⟨S8x6144, .f32⟩
  | .hbm, ⟨4, _⟩ => ⟨S1x1024x1024, .f32⟩
  | .hbm, ⟨5, _⟩ => ⟨S1x1024, .f32⟩
  | .hbm, ⟨6, _⟩ => ⟨S1x1024, .f32⟩
  | .hbm, ⟨7, _⟩ => ⟨S1x1024x2048, .f32⟩
  | .hbm, ⟨8, _⟩ => ⟨S1x2x128x128, .f32⟩
  | .hbm, ⟨9, _⟩ => ⟨S16384x512, .bf16⟩
  | .hbm, ⟨10, _⟩ => ⟨S16384x512, .bf16⟩
  | .hbm, ⟨11, _⟩ => ⟨S1024x1024, .f32⟩
  | .hbm, ⟨12, _⟩ => ⟨S1024x1024, .bf16⟩
  | .hbm, ⟨13, _⟩ => ⟨S16384x1024, .f32⟩
  | .hbm, ⟨14, _⟩ => ⟨S8x6x1x1024, .f32⟩
  | .hbm, ⟨15, _⟩ => ⟨S1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S1024x2048, .f32⟩
  | .hbm, ⟨20, _⟩ => ⟨S1024x2048, .bf16⟩
  | .hbm, ⟨21, _⟩ => ⟨S2x128x128, .f32⟩
  | .hbm, ⟨22, _⟩ => ⟨S2x128x128, .bf16⟩
  | .hbm, ⟨23, _⟩ => ⟨S16384x1024, .f32⟩
  | .hbm, ⟨24, _⟩ => ⟨S16384x1024, .bf16⟩
  | .hbm, ⟨25, _⟩ => ⟨S16x128x16384, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S1x1x1x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S1x1x1x1024, .f32⟩
  | .local _ .vmem, ⟨11, _⟩ => ⟨S1x1x1x1024, .f32⟩
  | .local _ .vmem, ⟨12, _⟩ => ⟨S1x1x1x1024, .f32⟩
  | .local _ .vmem, ⟨13, _⟩ => ⟨S1x1024, .f32⟩
  | .local _ .vmem, ⟨14, _⟩ => ⟨S1x1024, .f32⟩
  | .local _ .vmem, ⟨15, _⟩ => ⟨S1024x2048, .bf16⟩
  | .local _ .vmem, ⟨16, _⟩ => ⟨S2x128x128, .bf16⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | .local _ .vmem, ⟨21, _⟩ => ⟨S16x128x512, .f32⟩
  | .local _ .vmem, ⟨22, _⟩ => ⟨S16x128x512, .f32⟩
  | _, _ => ⟨S8x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev main_v14_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let c0_i32_4 : BitVec 32 := 0#32
  let c0_i32_5 : BitVec 32 := 0#32
  let c0_i32_6 : BitVec 32 := 0#32
  ![v16.toNat, c2_i32.toNat, c0_i32_4.toNat, c0_i32_5.toNat]

def cc0_transform_5 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let c0_i32_6 : BitVec 32 := 0#32
  let c0_i32_7 : BitVec 32 := 0#32
  ![v16.toNat, c4_i32_4.toNat, c0_i32_5.toNat, c0_i32_6.toNat]

def cc0_transform_6 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let c0_i32_4 : BitVec 32 := 0#32
  let c0_i32_5 : BitVec 32 := 0#32
  let c0_i32_6 : BitVec 32 := 0#32
  ![v16.toNat, c3_i32.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S16x128x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S8x2048x512 : Shape := ⟨3, ![8, 2048, 512]⟩
abbrev S8x2048x1024 : Shape := ⟨3, ![8, 2048, 1024]⟩
abbrev S8x6144 : Shape := ⟨2, ![8, 6144]⟩
abbrev S1x1024x1024 : Shape := ⟨3, ![1, 1024, 1024]⟩
abbrev S1x1024 : Shape := ⟨2, ![1, 1024]⟩
abbrev S1x1024x2048 : Shape := ⟨3, ![1, 1024, 2048]⟩
abbrev S1x2x128x128 : Shape := ⟨4, ![1, 2, 128, 128]⟩
abbrev S8x1x6144 : Shape := ⟨3, ![8, 1, 6144]⟩
abbrev S8x1x1024 : Shape := ⟨3, ![8, 1, 1024]⟩
abbrev S1024x1024 : Shape := ⟨2, ![1024, 1024]⟩
abbrev S_ : Shape := ⟨0, ![]⟩
abbrev S8x2048 : Shape := ⟨2, ![8, 2048]⟩
abbrev S8x2048x1 : Shape := ⟨3, ![8, 2048, 1]⟩
abbrev S1024 : Shape := ⟨1, ![1024]⟩
abbrev S1x1x1024 : Shape := ⟨3, ![1, 1, 1024]⟩
abbrev S16384x1024 : Shape := ⟨2, ![16384, 1024]⟩
abbrev S1024x2048 : Shape := ⟨2, ![1024, 2048]⟩
abbrev S16384x2048 : Shape := ⟨2, ![16384, 2048]⟩
abbrev S16384x8x2x128 : Shape := ⟨4, ![16384, 8, 2, 128]⟩
abbrev S2x128x128 : Shape := ⟨3, ![2, 128, 128]⟩
abbrev S2x128x16384x8 : Shape := ⟨4, ![2, 128, 16384, 8]⟩
abbrev S8x2x128x16384 : Shape := ⟨4, ![8, 2, 128, 16384]⟩
abbrev S16x128x16384 : Shape := ⟨3, ![16, 128, 16384]⟩

abbrev nBuf : Space → Nat
  | .hbm => 103
  | .vmem => 0
  | .smem => 0
  | _ => 0

abbrev bufTy : (tb : Table) → Fin (tcTables nBuf tb) → BufTy
  | .hbm, ⟨0, _⟩ => ⟨S8x2048x512, .bf16⟩
  | .hbm, ⟨1, _⟩ => ⟨S8x2048x512, .bf16⟩
  | .hbm, ⟨2, _⟩ => ⟨S8x2048x1024, .f32⟩
  | .hbm, ⟨3, _⟩ => ⟨S8x6144, .f32⟩
  | .hbm, ⟨4, _⟩ => ⟨S1x1024x1024, .f32⟩
  | .hbm, ⟨5, _⟩ => ⟨S1x1024, .f32⟩
  | .hbm, ⟨6, _⟩ => ⟨S1x1024, .f32⟩
  | .hbm, ⟨7, _⟩ => ⟨S1x1024x2048, .f32⟩
  | .hbm, ⟨8, _⟩ => ⟨S1x2x128x128, .f32⟩
  | .hbm, ⟨9, _⟩ => ⟨S8x1x6144, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x2048x512, .f32⟩
  | .hbm, ⟨17, _⟩ => ⟨S8x2048x512, .f32⟩
  | .hbm, ⟨18, _⟩ => ⟨S8x2048x1024, .f32⟩
  | .hbm, ⟨19, _⟩ => ⟨S1024x1024, .f32⟩
  | .hbm, ⟨20, _⟩ => ⟨S8x2048x1024, .f32⟩
  | .hbm, ⟨21, _⟩ => ⟨S_, .f32⟩
  | .hbm, ⟨22, _⟩ => ⟨S8x2048x1024, .f32⟩
  | .hbm, ⟨23, _⟩ => ⟨S8x2048x1024, .f32⟩
  | .hbm, ⟨24, _⟩ => ⟨S_, .f32⟩
  | .hbm, ⟨25, _⟩ => ⟨S8x1x1024, .f32⟩
  | .hbm, ⟨26, _⟩ => ⟨S8x1x1024, .f32⟩
  | .hbm, ⟨27, _⟩ => ⟨S8x2048x1024, .f32⟩
  | .hbm, ⟨28, _⟩ => ⟨S8x2048x1024, .f32⟩
  | .hbm, ⟨29, _⟩ => ⟨S8x2048x1024, .f32⟩
  | .hbm, ⟨30, _⟩ => ⟨S_, .f32⟩
  | .hbm, ⟨31, _⟩ => ⟨S8x2048, .f32⟩
  | .hbm, ⟨32, _⟩ => ⟨S8x2048x1, .f32⟩
  | .hbm, ⟨33, _⟩ => ⟨S_, .f32⟩
  | .hbm, ⟨34, _⟩ => ⟨S8x2048x1, .f32⟩
  | .hbm, ⟨35, _⟩ => ⟨S8x2048x1, .f32⟩
  | .hbm, ⟨36, _⟩ => ⟨S8x2048x1024, .f32⟩
  | .hbm, ⟨37, _⟩ => ⟨S8x2048x1024, .f32⟩
  | .hbm, ⟨38, _⟩ => ⟨S8x2048x1024, .f32⟩
  | .hbm, ⟨39, _⟩ => ⟨S_, .f32⟩
  | .hbm, ⟨40, _⟩ => ⟨S8x2048, .f32⟩
  | .hbm, ⟨41, _⟩ => ⟨S8x2048x1, .f32⟩
  | .hbm, ⟨42, _⟩ => ⟨S_, .f32⟩
  | .hbm, ⟨43, _⟩ => ⟨S8x2048x1, .f32⟩
  | .hbm, ⟨44, _⟩ => ⟨S8x2048x1, .f32⟩
  | .hbm, ⟨45, _⟩ => ⟨S8x2048x1024, .f32⟩
  | .hbm, ⟨46, _⟩ => ⟨S8x2048x1024, .f32⟩
  | .hbm, ⟨47, _⟩ => ⟨S_, .f32⟩
  | .hbm, ⟨48, _⟩ => ⟨S8x2048x1, .f32⟩
  | .hbm, ⟨49, _⟩ => ⟨S8x2048x1, .f32⟩
  | .hbm, ⟨50, _⟩ => ⟨S8x2048x1, .f32⟩
  | .hbm, ⟨51, _⟩ => ⟨S8x2048x1024, .f32⟩
  | .hbm, ⟨52, _⟩ => ⟨S8x2048x1024, .f32⟩
  | .hbm, ⟨53, _⟩ => ⟨S1024, .f32⟩
  | .hbm, ⟨54, _⟩ => ⟨S1x1x1024, .f32⟩
  | .hbm, ⟨55, _⟩ => ⟨S8x2048x1024, .f32⟩
  | .hbm, ⟨56, _⟩ => ⟨S8x2048x1024, .f32⟩
  | .hbm, ⟨57, _⟩ => ⟨S1024, .f32⟩
  | .hbm, ⟨58, _⟩ => ⟨S1x1x1024, .f32⟩
  | .hbm, ⟨59, _⟩ => ⟨S8x2048x1024, .f32⟩
  | .hbm, ⟨60, _⟩ => ⟨S8x2048x1024, .f32⟩
  | .hbm, ⟨61, _⟩ => ⟨S_, .f32⟩
  | .hbm, ⟨62, _⟩ => ⟨S8x2048, .f32⟩
  | .hbm, ⟨63, _⟩ => ⟨S8x2048x1, .f32⟩
  | .hbm, ⟨64, _⟩ => ⟨S_, .f32⟩
  | .hbm, ⟨65, _⟩ => ⟨S8x2048x1, .f32⟩
  | .hbm, ⟨66, _⟩ => ⟨S8x2048x1, .f32⟩
  | .hbm, ⟨67, _⟩ => ⟨S8x2048x1024, .f32⟩
  | .hbm, ⟨68, _⟩ => ⟨S8x2048x1024, .f32⟩
  | .hbm, ⟨69, _⟩ => ⟨S8x2048x1024, .f32⟩
  | .hbm, ⟨70, _⟩ => ⟨S_, .f32⟩
  | .hbm, ⟨71, _⟩ => ⟨S8x2048, .f32⟩
  | .hbm, ⟨72, _⟩ => ⟨S8x2048x1, .f32⟩
  | .hbm, ⟨73, _⟩ => ⟨S_, .f32⟩
  | .hbm, ⟨74, _⟩ => ⟨S8x2048x1, .f32⟩
  | .hbm, ⟨75, _⟩ => ⟨S8x2048x1, .f32⟩
  | .hbm, ⟨76, _⟩ => ⟨S8x2048x1024, .f32⟩
  | .hbm, ⟨77, _⟩ => ⟨S8x2048x1024, .f32⟩
  | .hbm, ⟨78, _⟩ => ⟨S_, .f32⟩
  | .hbm, ⟨79, _⟩ => ⟨S8x2048x1, .f32⟩
  | .hbm, ⟨80, _⟩ => ⟨S8x2048x1, .f32⟩
  | .hbm, ⟨81, _⟩ => ⟨S8x2048x1, .f32⟩
  | .hbm, ⟨82, _⟩ => ⟨S8x2048x1024, .f32⟩
  | .hbm, ⟨83, _⟩ => ⟨S8x2048x1024, .f32⟩
  | .hbm, ⟨84, _⟩ => ⟨S_, .f32⟩
  | .hbm, ⟨85, _⟩ => ⟨S8x1x1024, .f32⟩
  | .hbm, ⟨86, _⟩ => ⟨S8x1x1024, .f32⟩
  | .hbm, ⟨87, _⟩ => ⟨S8x2048x1024, .f32⟩
  | .hbm, ⟨88, _⟩ => ⟨S8x2048x1024, .f32⟩
  | .hbm, ⟨89, _⟩ => ⟨S8x2048x1024, .f32⟩
  | .hbm, ⟨90, _⟩ => ⟨S8x2048x1024, .f32⟩
  | .hbm, ⟨91, _⟩ => ⟨S16384x1024, .f32⟩
  | .hbm, ⟨92, _⟩ => ⟨S1024x2048, .f32⟩
  | .hbm, ⟨93, _⟩ => ⟨S16384x2048, .f32⟩
  | .hbm, ⟨94, _⟩ => ⟨S16384x8x2x128, .f32⟩
  | .hbm, ⟨95, _⟩ => ⟨S2x128x128, .f32⟩
  | .hbm, ⟨96, _⟩ => ⟨S2x128x16384x8, .f32⟩
  | .hbm, ⟨97, _⟩ => ⟨S16384x8x2x128, .f32⟩
  | .hbm, ⟨98, _⟩ => ⟨S16384x1024, .f32⟩
  | .hbm, ⟨99, _⟩ => ⟨S8x2048x1024, .bf16⟩
  | .hbm, ⟨100, _⟩ => ⟨S16384x1024, .bf16⟩
  | .hbm, ⟨101, _⟩ => ⟨S8x2x128x16384, .f32⟩
  | .hbm, ⟨102, _⟩ => ⟨S16x128x16384, .f32⟩
  | _, _ => ⟨S8x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_6 : Ref sig .tc := ⟨.hbm, 61, rfl⟩
abbrev main_v45 : Ref sig .tc := ⟨.hbm, 62, rfl⟩
abbrev main_v46 : Ref sig .tc := ⟨.hbm, 63, rfl⟩
abbrev main_cst_7 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_8 : Ref sig .tc := ⟨.hbm, 70, rfl⟩
abbrev main_v52 : Ref sig .tc := ⟨.hbm, 71, rfl⟩
abbrev main_v53 : Ref sig .tc := ⟨.hbm, 72, rfl⟩
abbrev main_cst_9 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_10 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_11 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩

abbrev nD : Nat := 1
abbrev τ : Topo := Topo.v7x

variable {F : FTy → Type} [FloatOps F]
-- ==== Kernel3.lean ====
abbrev S8x2048x1024 : Shape := ⟨3, ![8, 2048, 1024]⟩
abbrev S8x1024 : Shape := ⟨2, ![8, 1024]⟩
abbrev S1x1024x6144 : Shape := ⟨3, ![1, 1024, 6144]⟩
abbrev S1x6144 : Shape := ⟨2, ![1, 6144]⟩
abbrev S1x1024x3072 : Shape := ⟨3, ![1, 1024, 3072]⟩
abbrev S1024x6144 : Shape := ⟨2, ![1024, 6144]⟩
abbrev S6144 : Shape := ⟨1, ![6144]⟩
abbrev S8x6144 : Shape := ⟨2, ![8, 6144]⟩
abbrev S1024x1024 : Shape := ⟨2, ![1024, 1024]⟩
abbrev S1x1024 : Shape := ⟨2, ![1, 1024]⟩
abbrev S8x6x1x1024 : Shape := ⟨4, ![8, 6, 1, 1024]⟩
abbrev S16384x1024 : Shape := ⟨2, ![16384, 1024]⟩
abbrev S1024x3072 : Shape := ⟨2, ![1024, 3072]⟩
abbrev S16384x3072 : Shape := ⟨2, ![16384, 3072]⟩
abbrev S512x1024 : Shape := ⟨2, ![512, 1024]⟩
abbrev S1x1x1x1024 : Shape := ⟨4, ![1, 1, 1, 1024]⟩
abbrev S512x3072 : Shape := ⟨2, ![512, 3072]⟩
abbrev S512 : Shape := ⟨1, ![512]⟩
abbrev S512x1 : Shape := ⟨2, ![512, 1]⟩
abbrev S8x2048x3072 : Shape := ⟨3, ![8, 2048, 3072]⟩

abbrev nBuf : Space → Nat
  | .hbm => 15
  | .vmem => 16
  | .smem => 0
  | _ => 0

abbrev bufTy : (tb : Table) → Fin (tcTables nBuf tb) → BufTy
  | .hbm, ⟨0, _⟩ => ⟨S8x2048x1024, .f32⟩
  | .hbm, ⟨1, _⟩ => ⟨S8x1024, .f32⟩
  | .hbm, ⟨2, _⟩ => ⟨S1x1024x6144, .f32⟩
  | .hbm, ⟨3, _⟩ => ⟨S1x6144, .f32⟩
  | .hbm, ⟨4, _⟩ => ⟨S1x1024x3072, .f32⟩
  | .hbm, ⟨5, _⟩ => ⟨S1024x6144, .f32⟩
  | .hbm, ⟨6, _⟩ => ⟨S6144, .f32⟩
  | .hbm, ⟨7, _⟩ => ⟨S1x6144, .f32⟩
  | .hbm, ⟨8, _⟩ => ⟨S8x6144, .f32⟩
  | .hbm, ⟨9, _⟩ => ⟨S8x6x1x1024, .f32⟩
  | .hbm, ⟨10, _⟩ => ⟨S16384x1024, .f32⟩
  | .hbm, ⟨11, _⟩ => ⟨S1024x3072, .f32⟩
  | .hbm, ⟨12, _⟩ => ⟨S1024x3072, .bf16⟩
  | .hbm, ⟨13, _⟩ => ⟨S16384x3072, .bf16⟩
  | .hbm, ⟨14, _⟩ => ⟨S8x2048x3072, .bf16⟩
  | .local _ .vmem, ⟨0, _⟩ => ⟨S8x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | .local _ .vmem, ⟨7, _⟩ => ⟨S512x1024, .f32⟩
  | .local _ .vmem, ⟨8, _⟩ => ⟨S512x1024, .f32⟩
  | .local _ .vmem, ⟨9, _⟩ => ⟨S1x1x1x1024, .f32⟩
  | .local _ .vmem, ⟨10, _⟩ => ⟨S1x1x1x1024, .f32⟩
  | .local _ .vmem, ⟨11, _⟩ => ⟨S1x1x1x1024, .f32⟩
  | .local _ .vmem, ⟨12, _⟩ => ⟨S1x1x1x1024, .f32⟩
  | .local _ .vmem, ⟨13, _⟩ => ⟨S1024x3072, .bf16⟩
  | .local _ .vmem, ⟨14, _⟩ => ⟨S512x3072, .bf16⟩
  | .local _ .vmem, ⟨15, _⟩ => ⟨S512x3072, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  let c0_i32_6 : BitVec 32 := 0#32
  let c0_i32_7 : BitVec 32 := 0#32
  ![v16.toNat, c1_i32_4.toNat, c0_i32_5.toNat, c0_i32_6.toNat]

def cc1_transform_2 (i : grid1.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x1x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1024x3072 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x3072 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== Reference3Ideal.lean ====
abbrev S8x2048x1024 : Shape := ⟨3, ![8, 2048, 1024]⟩
abbrev S8x1024 : Shape := ⟨2, ![8, 1024]⟩
abbrev S1x1024x6144 : Shape := ⟨3, ![1, 1024, 6144]⟩
abbrev S1x6144 : Shape := ⟨2, ![1, 6144]⟩
abbrev S1x1024x3072 : Shape := ⟨3, ![1, 1024, 3072]⟩
abbrev S_ : Shape := ⟨0, ![]⟩
abbrev S1024x6144 : Shape := ⟨2, ![1024, 6144]⟩
abbrev S8x6144 : Shape := ⟨2, ![8, 6144]⟩
abbrev S6144 : Shape := ⟨1, ![6144]⟩
abbrev S8x1x6144 : Shape := ⟨3, ![8, 1, 6144]⟩
abbrev S8x1x1024 : Shape := ⟨3, ![8, 1, 1024]⟩
abbrev S8x2048 : Shape := ⟨2, ![8, 2048]⟩
abbrev S8x2048x1 : Shape := ⟨3, ![8, 2048, 1]⟩
abbrev S1024x3072 : Shape := ⟨2, ![1024, 3072]⟩
abbrev S8x2048x3072 : Shape := ⟨3, ![8, 2048, 3072]⟩

abbrev nBuf : Space → Nat
  | .hbm => 60
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x1024, .f32⟩
  | .hbm, ⟨2, _⟩ => ⟨S1x1024x6144, .f32⟩
  | .hbm, ⟨3, _⟩ => ⟨S1x6144, .f32⟩
  | .hbm, ⟨4, _⟩ => ⟨S1x1024x3072, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S1024x6144, .f32⟩
  | .hbm, ⟨15, _⟩ => ⟨S8x6144, .f32⟩
  | .hbm, ⟨16, _⟩ => ⟨S6144, .f32⟩
  | .hbm, ⟨17, _⟩ => ⟨S1x6144, .f32⟩
  | .hbm, ⟨18, _⟩ => ⟨S8x6144, .f32⟩
  | .hbm, ⟨19, _⟩ => ⟨S8x6144, .f32⟩
  | .hbm, ⟨20, _⟩ => ⟨S8x1x6144, .f32⟩
  | .hbm, ⟨21, _⟩ => ⟨S8x1x1024, .f32⟩
  | .hbm, ⟨22, _⟩ => ⟨S8x1x1024, .f32⟩
  | .hbm, ⟨23, _⟩ => ⟨S8x1x1024, .f32⟩
  | .hbm, ⟨24, _⟩ => ⟨S8x1x1024, .f32⟩
  | .hbm, ⟨25, _⟩ => ⟨S8x1x1024, .f32⟩
  | .hbm, ⟨26, _⟩ => ⟨S8x1x1024, .f32⟩
  | .hbm, ⟨27, _⟩ => ⟨S_, .f32⟩
  | .hbm, ⟨28, _⟩ => ⟨S8x2048, .f32⟩
  | .hbm, ⟨29, _⟩ => ⟨S8x2048x1, .f32⟩
  | .hbm, ⟨30, _⟩ => ⟨S_, .f32⟩
  | .hbm, ⟨31, _⟩ => ⟨S8x2048x1, .f32⟩
  | .hbm, ⟨32, _⟩ => ⟨S8x2048x1, .f32⟩
  | .hbm, ⟨33, _⟩ => ⟨S8x2048x1024, .f32⟩
  | .hbm, ⟨34, _⟩ => ⟨S8x2048x1024, .f32⟩
  | .hbm, ⟨35, _⟩ => ⟨S8x2048x1024, .f32⟩
  | .hbm, ⟨36, _⟩ => ⟨S_, .f32⟩
  | .hbm, ⟨37, _⟩ => ⟨S8x2048, .f32⟩
  | .hbm, ⟨38, _⟩ => ⟨S8x2048x1, .f32⟩
  | .hbm, ⟨39, _⟩ => ⟨S_, .f32⟩
  | .hbm, ⟨40, _⟩ => ⟨S8x2048x1, .f32⟩
  | .hbm, ⟨41, _⟩ => ⟨S8x2048x1, .f32⟩
  | .hbm, ⟨42, _⟩ => ⟨S8x2048x1024, .f32⟩
  | .hbm, ⟨43, _⟩ => ⟨S8x2048x1024, .f32⟩
  | .hbm, ⟨44, _⟩ => ⟨S_, .f32⟩
  | .hbm, ⟨45, _⟩ => ⟨S8x2048x1, .f32⟩
  | .hbm, ⟨46, _⟩ => ⟨S8x2048x1, .f32⟩
  | .hbm, ⟨47, _⟩ => ⟨S8x2048x1, .f32⟩
  | .hbm, ⟨48, _⟩ => ⟨S8x2048x1024, .f32⟩
  | .hbm, ⟨49, _⟩ => ⟨S8x2048x1024, .f32⟩
  | .hbm, ⟨50, _⟩ => ⟨S_, .f32⟩
  | .hbm, ⟨51, _⟩ => ⟨S8x1x1024, .f32⟩
  | .hbm, ⟨52, _⟩ => ⟨S8x1x1024, .f32⟩
  | .hbm, ⟨53, _⟩ => ⟨S8x2048x1024, .f32⟩
  | .hbm, ⟨54, _⟩ => ⟨S8x2048x1024, .f32⟩
  | .hbm, ⟨55, _⟩ => ⟨S8x2048x1024, .f32⟩
  | .hbm, ⟨56, _⟩ => ⟨S8x2048x1024, .f32⟩
  | .hbm, ⟨57, _⟩ => ⟨S1024x3072, .f32⟩
  | .hbm, ⟨58, _⟩ => ⟨S8x2048x3072, .f32⟩
  | .hbm, ⟨59, _⟩ => ⟨S8x2048x3072, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_cst_0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_1 : Ref sig .tc := ⟨.hbm, 36, rfl⟩
abbrev main_v21 : Ref sig .tc := ⟨.hbm, 37, rfl⟩
abbrev main_v22 : Ref sig .tc := ⟨.hbm, 38, rfl⟩
abbrev main_cst_2 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩

abbrev nD : Nat := 1
abbrev τ : Topo := Topo.v7x

variable {F : FTy → Type} [FloatOps F]
-- ==== Kernel4.lean ====
abbrev S8x2048x3072 : Shape := ⟨3, ![8, 2048, 3072]⟩
abbrev S1x8x15x31 : Shape := ⟨4, ![1, 8, 15, 31]⟩
abbrev S8x15x31 : Shape := ⟨3, ![8, 15, 31]⟩
abbrev S3720 : Shape := ⟨1, ![3720]⟩
abbrev S3x8x256x768 : Shape := ⟨4, ![3, 8, 256, 768]⟩
abbrev S3x1x256x768 : Shape := ⟨4, ![3, 1, 256, 768]⟩
abbrev S16x64x128 : Shape := ⟨3, ![16, 64, 128]⟩
abbrev S64x128 : Shape := ⟨2, ![64, 128]⟩
abbrev S1 : Shape := ⟨1, ![1]⟩
abbrev S1x64x128 : Shape := ⟨3, ![1, 64, 128]⟩
abbrev S1x1x64x128 : Shape := ⟨4, ![1, 1, 64, 128]⟩
abbrev S8x2048x512 : Shape := ⟨3, ![8, 2048, 512]⟩
abbrev S1x256x512 : Shape := ⟨3, ![1, 256, 512]⟩
abbrev S1x2048x512 : Shape := ⟨3, ![1, 2048, 512]⟩
abbrev S1x8x256x768 : Shape := ⟨4, ![1, 8, 256, 768]⟩
abbrev S1x128 : Shape := ⟨2, ![1, 128]⟩
abbrev S1x256x128 : Shape := ⟨3, ![1, 256, 128]⟩
abbrev S256x128 : Shape := ⟨2, ![256, 128]⟩
abbrev S1x768x128 : Shape := ⟨3, ![1, 768, 128]⟩
abbrev S768x128 : Shape := ⟨2, ![768, 128]⟩
abbrev S512x128 : Shape := ⟨2, ![512, 128]⟩
abbrev S512x768 : Shape := ⟨2, ![512, 768]⟩
abbrev S256x768 : Shape := ⟨2, ![256, 768]⟩
abbrev S1x1x256x768 : Shape := ⟨4, ![1, 1, 256, 768]⟩
abbrev S256 : Shape := ⟨1, ![256]⟩
abbrev S256x1 : Shape := ⟨2, ![256, 1]⟩
abbrev S256x1536 : Shape := ⟨2, ![256, 1536]⟩
abbrev S1536x128 : Shape := ⟨2, ![1536, 128]⟩

abbrev nBuf : Space → Nat
  | .hbm => 6
  | .vmem => 13
  | .smem => 1
  | _ => 0

abbrev bufTy : (tb : Table) → Fin (tcTables nBuf tb) → BufTy
  | .hbm, ⟨0, _⟩ => ⟨S8x2048x3072, .bf16⟩
  | .hbm, ⟨1, _⟩ => ⟨S1x8x15x31, .f32⟩
  | .hbm, ⟨2, _⟩ => ⟨S8x15x31, .f32⟩
  | .hbm, ⟨3, _⟩ => ⟨S3720, .f32⟩
  | .hbm, ⟨4, _⟩ => ⟨S3x8x256x768, .f32⟩
  | .hbm, ⟨5, _⟩ => ⟨S8x2048x512, .bf16⟩
  | .local _ .vmem, ⟨0, _⟩ => ⟨S3x1x256x768, .f32⟩
  | .local _ .vmem, ⟨1, _⟩ => ⟨S3x1x256x768, .f32⟩
  | .local _ .vmem, ⟨2, _⟩ => ⟨S16x64x128, .f32⟩
  | .local _ .vmem, ⟨3, _⟩ => ⟨S1x256x512, .bf16⟩
  | .local _ .vmem, ⟨4, _⟩ => ⟨S1x256x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x2048x512, .bf16⟩
  | .local _ .vmem, ⟨9, _⟩ => ⟨S1x8x256x768, .f32⟩
  | .local _ .vmem, ⟨10, _⟩ => ⟨S1x8x256x768, .f32⟩
  | .local _ .vmem, ⟨11, _⟩ => ⟨S1x256x512, .bf16⟩
  | .local _ .vmem, ⟨12, _⟩ => ⟨S1x256x512, .bf16⟩
  | .local _ .smem, ⟨0, _⟩ => ⟨S3720, .f32⟩
  | _, _ => ⟨S8x2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg1_0 : Ref sig .tc := ⟨.vmem, 0, rfl⟩
abbrev cc0_stg1_1 : Ref sig .tc := ⟨.vmem, 1, rfl⟩
abbrev cc0_scratch0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem4_1 : DmaSem sig := 12

abbrev nD : Nat := 1
abbrev τ : Topo := Topo.v7x

variable {F : FTy → Type} [FloatOps F]

abbrev grid0 : Pipeline.Grid := ⟨1, ![8], ![false]⟩

def k0_off1 (i : grid0.Coords) (c0_i32_3 : BitVec 32) (c0_i32_4 : BitVec 32) : Fin 1 → Nat :=
  let arg0 : BitVec 32 := BitVec.ofNat 32 (i 0).val
  let c15_i32_2 : BitVec 32 := 15#32
  let v25 : BitVec 32 := Scalar.muli arg0 c15_i32_2
  let v26 : BitVec 32 := Scalar.addi v25 c0_i32_3
  let c31_i32 : BitVec 32 := 31#32
  let v27 : BitVec 32 := Scalar.muli v26 c31_i32
  let v28 : BitVec 32 := Scalar.addi v27 c0_i32_4
  let v29 : Index := Scalar.indexCast v28
  ![v29.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 1 → Memref sig .tc .smem S3720 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3x1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![8, 8], ![false, false]⟩

def k1_mult1 (i : grid1.Coords) : BitVec 32 :=
  let c20_i32 : BitVec 32 := 20#32
  let c0_i32 : BitVec 32 := 0#32
  let arg0 : BitVec 32 := BitVec.ofNat 32 (i 0).val
  let c4_i32 : BitVec 32 := 4#32
  let v0 : BitVec 32 := Scalar.muli arg0 c4_i32
  let c4_i32_0 : BitVec 32 := 4#32
  let v1 : BitVec 32 := Scalar.subi v0 c4_i32_0
  let v2 : BitVec 32 := Scalar.maxsi c0_i32 v1
  let v3 : BitVec 32 := Scalar.minsi c20_i32 v2
  let c64_i32 : BitVec 32 := 64#32
  let v4 : BitVec 32 := Scalar.muli v3 c64_i32
  v4
def k1_off1 (i : grid1.Coords) : Fin 3 → Nat :=
  let c0_14 : Index := 0#32
  let c20_i32 : BitVec 32 := 20#32
  let c0_i32 : BitVec 32 := 0#32
  let arg0 : BitVec 32 := BitVec.ofNat 32 (i 0).val
  let c4_i32 : BitVec 32 := 4#32
  let v0 : BitVec 32 := Scalar.muli arg0 c4_i32
  let c4_i32_0 : BitVec 32 := 4#32
  let v1 : BitVec 32 := Scalar.subi v0 c4_i32_0
  let v2 : BitVec 32 := Scalar.maxsi c0_i32 v1
  let v3 : BitVec 32 := Scalar.minsi c20_i32 v2
  let c64_i32 : BitVec 32 := 64#32
  let v4 : BitVec 32 := Scalar.muli v3 c64_i32
  let v5 : BitVec 32 := v4
  let v34 : Index := Scalar.indexCast v5
  let c0_15 : Index := 0#32
  ![0, v34.toNat, 0]
def k1_off2 (i : grid1.Coords) : Fin 3 → Nat :=
  let c0_39 : Index := 0#32
  let c20_i32 : BitVec 32 := 20#32
  let c0_i32 : BitVec 32 := 0#32
  let arg0 : BitVec 32 := BitVec.ofNat 32 (i 0).val
  let c4_i32 : BitVec 32 := 4#32
  let v0 : BitVec 32 := Scalar.muli arg0 c4_i32
  let c4_i32_0 : BitVec 32 := 4#32
  let v1 : BitVec 32 := Scalar.subi v0 c4_i32_0
  let v2 : BitVec 32 := Scalar.maxsi c0_i32 v1
  let v3 : BitVec 32 := Scalar.minsi c20_i32 v2
  let c64_i32 : BitVec 32 := 64#32
  let v4 : BitVec 32 := Scalar.muli v3 c64_i32
  let v5 : BitVec 32 := v4
  let v98 : Index := Scalar.indexCast v5
  let c128_40 : Index := 128#32
  ![0, v98.toNat, 128]
def k1_off3 (i : grid1.Coords) : Fin 3 → Nat :=
  let c0_63 : Index := 0#32
  let c20_i32 : BitVec 32 := 20#32
  let c0_i32 : BitVec 32 := 0#32
  let arg0 : BitVec 32 := BitVec.ofNat 32 (i 0).val
  let c4_i32 : BitVec 32 := 4#32
  let v0 : BitVec 32 := Scalar.muli arg0 c4_i32
  let c4_i32_0 : BitVec 32 := 4#32
  let v1 : BitVec 32 := Scalar.subi v0 c4_i32_0
  let v2 : BitVec 32 := Scalar.maxsi c0_i32 v1
  let v3 : BitVec 32 := Scalar.minsi c20_i32 v2
  let c64_i32 : BitVec 32 := 64#32
  let v4 : BitVec 32 := Scalar.muli v3 c64_i32
  let v5 : BitVec 32 := v4
  let v162 : Index := Scalar.indexCast v5
  let c256_64 : Index := 256#32
  ![0, v162.toNat, 256]
def k1_off4 (i : grid1.Coords) : Fin 3 → Nat :=
  let c0_87 : Index := 0#32
  let c20_i32 : BitVec 32 := 20#32
  let c0_i32 : BitVec 32 := 0#32
  let arg0 : BitVec 32 := BitVec.ofNat 32 (i 0).val
  let c4_i32 : BitVec 32 := 4#32
  let v0 : BitVec 32 := Scalar.muli arg0 c4_i32
  let c4_i32_0 : BitVec 32 := 4#32
  let v1 : BitVec 32 := Scalar.subi v0 c4_i32_0
  let v2 : BitVec 32 := Scalar.maxsi c0_i32 v1
  let v3 : BitVec 32 := Scalar.minsi c20_i32 v2
  let c64_i32 : BitVec 32 := 64#32
  let v4 : BitVec 32 := Scalar.muli v3 c64_i32
  let v5 : BitVec 32 := v4
  let v226 : Index := Scalar.indexCast v5
  let c384_88 : Index := 384#32
  ![0, v226.toNat, 384]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg1.toNat, c0_i32.toNat, c1_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg1.toNat, c0_i32.toNat, c2_i32.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 1 := Scalar.cmpi .eq arg0 c7_i32
  let c2_i32 : BitVec 32 := 2#32
  let c1_i32 : BitVec 32 := 1#32
  let v2 : BitVec 32 := Scalar.select v1 c2_i32 c1_i32
  let c0_i32_0 : BitVec 32 := 0#32
  let v3 : BitVec 32 := Scalar.select v0 c0_i32_0 v2
  let c0_i32_1 : BitVec 32 := 0#32
  let c0_i32_2 : BitVec 32 := 0#32
  let c0_i32_3 : BitVec 32 := 0#32
  let c0_i32_4 : BitVec 32 := 0#32
  ![v3.toNat, c0_i32_1.toNat, c0_i32_2.toNat, c0_i32_3.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage1_0 : Fin 2 → Memref sig .tc .vmem S1x256x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x2048x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x8x256x768 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x256x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== Proof.DiffRun.lean ====
/- The run of the T5 bias tiles and the differential attention (KernelIdeal): two pallas_calls after one host reshape.
   The tile kernel has two cases, by the distance of its tile from the diagonal (`cond0_0`: at most one tile away,
   `cond0_1`: further away), decided here over the 60 grid points. Set-up of both launches, their bodies' runs, the
   buffer contents between the calls (`W0` … `W3`), and `run_main`: the program terminates, its arguments are
   unchanged, every counter is zero, and its result holds what the fold `W3` says. Stated over any float values. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.DiffRun

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_t5_bias` (pipeline 0), at the entry contents `V` — class R -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := k0_cond1 i = 1#1
/-- It holds at the points whose coordinates have 6 ≤ i1 and i1 ≤ 8 — decided over the grid. -/
theorem hcond0_0 : ∀ t : Fin cfg0.N, cond0_0 (grid0.coords t) ↔ (6 ≤ t.val % 15 ∧ t.val % 15 ≤ 8) :=
  (by decide +kernel : ∀ t : Fin grid0.N, cond0_0 (grid0.coords t) ↔ (6 ≤ t.val % 15 ∧ t.val % 15 ≤ 8))

/-- The condition of the body's `scf.if` 1 (`k0_h2`), from the grid coordinates (the skeleton's scalar
    chain substituted). -/
abbrev cond0_1 (i : grid0.Coords) : Prop := k0_cond2 i = 1#1
/-- It holds at the points whose coordinates do not have both 6 ≤ i1 and i1 ≤ 8 — decided over the grid. -/
theorem hcond0_1 : ∀ t : Fin cfg0.N, cond0_1 (grid0.coords t) ↔ ¬(6 ≤ t.val % 15 ∧ t.val % 15 ≤ 8) :=
  (by decide +kernel : ∀ t : Fin grid0.N, cond0_1 (grid0.coords t) ↔ ¬(6 ≤ t.val % 15 ∧ t.val % 15 ≤ 8))

/-! ## Where the windows are idle (the printed configuration's table `Cfg.idle`) -/

/-- Window 0 is never idle (an input). -/
theorem liveAt0_0 : ∀ t : Fin cfg0.N, cfg0.idle 0 (grid0.coords t) = false := fun _ => rfl
/-- At the points of case A the printed configuration (`Cfg.idle`) calls output 1 live: the case stores into it. -/
theorem liveAt0_1_A : ∀ t : Fin cfg0.N, ¬cond0_0 (grid0.coords t) → cond0_1 (grid0.coords t) → cfg0.idle 1 (grid0.coords t) = false := by decide +kernel
/-- At the points of case B the printed configuration (`Cfg.idle`) calls output 1 live: the case stores into it. -/
theorem liveAt0_1_B : ∀ t : Fin cfg0.N, cond0_0 (grid0.coords t) → ¬cond0_1 (grid0.coords t) → cfg0.idle 1 (grid0.coords t) = false := by decide +kernel

/-! ## The kernel body on any staging memrefs: a subtype the run finds -/

/-- One staging buffer of output window 1, through which its contents are stated (`View.read_writes_of_cover`: the
    choice does not matter). -/
abbrev VO0_1 : View sig .tc .vmem S1x1x256x256 .f32 := (Memref.whole cc0_stg1_0 : Memref sig .tc .vmem S1x1x256x256 .f32).view
/-- Each window's current staging memref at point `t`, spelled as the pipeline passes it (`bodyAt0`), and its wholeness. -/
abbrev ms0_0 (t : Fin cfg0.N) : Memref sig .tc .smem S128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x256x256 .f32 := win0_1.stage (cfg0.slots t 1)
abbrev hs0_1 (t : Fin cfg0.N) : (ms0_1 t).IsWhole := hstage0_1 ((cfg0.slots t 1).cast nbuf0_1)

-- (the run's proof term is large: the definition's epilogue — `abstractNestedProofs` — walks it past the default budget)
set_option maxHeartbeats 1000000 in
/-- What the body's stores leave in each output's staging memref, as pieces (last first) IN CASE A (`scf.if` 0 not taken, `scf.if` 1 taken: points 0, 1, … 59: 48 of 60), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .smem S128 .f32) (harg2 : arg2.IsWhole) (arg3 : Memref sig .tc .vmem S1x1x256x256 .f32) (harg3 : arg3.IsWhole) (hc0 : ¬cond0_0 i) (hc1 : cond0_1 i)
    (x0 : Vec F S128 .f32) :
    { L1 : List (View.Piece (Elt F) S1x1x256x256 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0_t5_bias i arg2 harg2 arg3 harg3) K } := by
  refine ⟨?_, fun E K => ?run⟩
  case run =>
    simp only [cc0_t5_bias_eq_skeleton]; unfold cc0_t5_bias_skel
    unfold owns
    iintro ⟨⟨%f0, %hf0, H0⟩, ⟨%d1, %f1, -, H1⟩, Hk⟩
    obtain rfl := harg2.eq_unread hf0
    sl_exec (disch := first | sl_exact hc0 | sl_exact hc1)
    sl_step
    iapply Hk
    isplitl [H0]
    · iexists _; isplitr; · ipureintro; exact harg2.read_unread _
      iexact H0
    iexists _; iexact H1

/-- Case A's pieces for output 1 tile its block (1 store of `S1x1x256x256`, checked by the kernel's evaluation: Lib/Ring.lean `Piece.tiledL`, linear in the pieces, through a loop's `@[irreducible]` trip theorem too), so they cover it. -/
theorem cover0_A_1 (c : Dev nD) (i : grid0.Coords) (arg2 : Memref sig .tc .smem S128 .f32) (harg2 : arg2.IsWhole) (arg3 : Memref sig .tc .vmem S1x1x256x256 .f32) (harg3 : arg3.IsWhole) (hc0 : ¬cond0_0 i) (hc1 : cond0_1 i)
    (x0 : Vec F S128 .f32) (y : S1x1x256x256.Idx) :
    ∃ pc ∈ (kernelRun0_A c i arg2 harg2 arg3 harg3 hc0 hc1 x0).1, y ∈ pc.1.set :=
  View.cover_of_tiledL (kernelRun0_A c i arg2 harg2 arg3 harg3 hc0 hc1 x0).1 S1x1x256x256.size (by sl_kernel_rfl) y

/-- What case A leaves in output 1's staging buffer: its pieces read back over junk. -/
def out0_A_1 (c : Dev nD) (i : grid0.Coords) (arg2 : Memref sig .tc .smem S128 .f32) (harg2 : arg2.IsWhole) (arg3 : Memref sig .tc .vmem S1x1x256x256 .f32) (harg3 : arg3.IsWhole) (hc0 : ¬cond0_0 i) (hc1 : cond0_1 i)
    (x0 : Vec F S128 .f32) : Vec F S1x1x256x256 .f32 :=
  VO0_1.read (Elt F) (VO0_1.writes (Elt F) VO0_1.junk (kernelRun0_A c i arg2 harg2 arg3 harg3 hc0 hc1 x0).1)

-- (the run's proof term is large: the definition's epilogue — `abstractNestedProofs` — walks it past the default budget)
set_option maxHeartbeats 1000000 in
/-- What the body's stores leave in each output's staging memref, as pieces (last first) IN CASE B (`scf.if` 0 taken, `scf.if` 1 not taken: points 6, 7, … 53: 12 of 60), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .smem S128 .f32) (harg2 : arg2.IsWhole) (arg3 : Memref sig .tc .vmem S1x1x256x256 .f32) (harg3 : arg3.IsWhole) (hc0 : cond0_0 i) (hc1 : ¬cond0_1 i)
    (x0 : Vec F S128 .f32) :
    { L1 : List (View.Piece (Elt F) S1x1x256x256 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0_t5_bias i arg2 harg2 arg3 harg3) K } := by
  refine ⟨?_, fun E K => ?run⟩
  case run =>
    simp only [cc0_t5_bias_eq_skeleton]; unfold cc0_t5_bias_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%d1, %f1, -, H1⟩, Hk⟩
    obtain rfl := harg2.eq_unread hf0
    sl_exec (disch := first | sl_exact hc0 | sl_exact hc1)
    sl_step
    iapply Hk
    isplitl [H0]
    · iexists _; isplitr; · ipureintro; exact harg2.read_unread _
      iexact H0
    iexists _; iexact H1

/-- Case B's pieces for output 1 tile its block (1 store of `S1x1x256x256`, checked by the kernel's evaluation: Lib/Ring.lean `Piece.tiledL`, linear in the pieces, through a loop's `@[irreducible]` trip theorem too), so they cover it. -/
theorem cover0_B_1 (c : Dev nD) (i : grid0.Coords) (arg2 : Memref sig .tc .smem S128 .f32) (harg2 : arg2.IsWhole) (arg3 : Memref sig .tc .vmem S1x1x256x256 .f32) (harg3 : arg3.IsWhole) (hc0 : cond0_0 i) (hc1 : ¬cond0_1 i)
    (x0 : Vec F S128 .f32) (y : S1x1x256x256.Idx) :
    ∃ pc ∈ (kernelRun0_B c i arg2 harg2 arg3 harg3 hc0 hc1 x0).1, y ∈ pc.1.set :=
  View.cover_of_tiledL (kernelRun0_B c i arg2 harg2 arg3 harg3 hc0 hc1 x0).1 S1x1x256x256.size (by sl_kernel_rfl) y

/-- What case B leaves in output 1's staging buffer: its pieces read back over junk. -/
def out0_B_1 (c : Dev nD) (i : grid0.Coords) (arg2 : Memref sig .tc .smem S128 .f32) (harg2 : arg2.IsWhole) (arg3 : Memref sig .tc .vmem S1x1x256x256 .f32) (harg3 : arg3.IsWhole) (hc0 : cond0_0 i) (hc1 : ¬cond0_1 i)
    (x0 : Vec F S128 .f32) : Vec F S1x1x256x256 .f32 :=
  VO0_1.read (Elt F) (VO0_1.writes (Elt F) VO0_1.junk (kernelRun0_B c i arg2 harg2 arg3 harg3 hc0 hc1 x0).1)

/-! ## What the outputs hold after each point -/

/-- THE ACCUMULATION. What the outputs' staging buffers hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x1x256x256 .f32
  | 0, hn => out0_A_1 c (grid0.coords ⟨0, hn⟩) (ms0_0 ⟨0, hn⟩) (hs0_0 ⟨0, hn⟩) (ms0_1 ⟨0, hn⟩) (hs0_1 ⟨0, hn⟩) (fun h => (fun h => by (try dsimp only at h); omega) ((hcond0_0 ⟨0, hn⟩).mp h)) ((hcond0_1 ⟨0, hn⟩).mpr (by (try dsimp only) <;> omega)) (iblk0 V c 0 ⟨0, hn⟩)
  | n + 1, hn =>
    if h0 : (6 ≤ (n + 1) % 15 ∧ (n + 1) % 15 ≤ 8) then
      if h1 : ¬(6 ≤ (n + 1) % 15 ∧ (n + 1) % 15 ≤ 8) then
        False.elim (by have hN : n + 1 < 60 := lt_of_lt_of_eq hn (show cfg0.N = 60 from N_0); omega)
      else
        out0_B_1 c (grid0.coords ⟨n + 1, hn⟩) (ms0_0 ⟨n + 1, hn⟩) (hs0_0 ⟨n + 1, hn⟩) (ms0_1 ⟨n + 1, hn⟩) (hs0_1 ⟨n + 1, hn⟩) ((hcond0_0 ⟨n + 1, hn⟩).mpr h0) (fun h => h1 ((hcond0_1 ⟨n + 1, hn⟩).mp h)) (iblk0 V c 0 ⟨n + 1, hn⟩)
    else
      if h1 : ¬(6 ≤ (n + 1) % 15 ∧ (n + 1) % 15 ≤ 8) then
        out0_A_1 c (grid0.coords ⟨n + 1, hn⟩) (ms0_0 ⟨n + 1, hn⟩) (hs0_0 ⟨n + 1, hn⟩) (ms0_1 ⟨n + 1, hn⟩) (hs0_1 ⟨n + 1, hn⟩) (fun h => h0 ((hcond0_0 ⟨n + 1, hn⟩).mp h)) ((hcond0_1 ⟨n + 1, hn⟩).mpr h1) (iblk0 V c 0 ⟨n + 1, hn⟩)
      else
        False.elim (by have hN : n + 1 < 60 := lt_of_lt_of_eq hn (show cfg0.N = 60 from N_0); omega)

/-- `outsAt0` at a point of case A: that case's contents. -/
theorem outsAt0_A (c : Dev nD) (t : Fin cfg0.N) (h0 : ¬(6 ≤ t.val % 15 ∧ t.val % 15 ≤ 8)) (h1 : ¬(6 ≤ t.val % 15 ∧ t.val % 15 ≤ 8)) :
    outsAt0 V c t.val t.isLt = out0_A_1 c (grid0.coords t) (ms0_0 t) (hs0_0 t) (ms0_1 t) (hs0_1 t) (fun h => h0 ((hcond0_0 t).mp h)) ((hcond0_1 t).mpr h1) (iblk0 V c 0 t) := by
  obtain ⟨n, hn⟩ := t
  cases n with
  | zero => exact rfl
  | succ n => exact (dif_neg h0).trans ((dif_pos h1).trans rfl)

/-- `outsAt0` at a point of case B: that case's contents. -/
theorem outsAt0_B (c : Dev nD) (t : Fin cfg0.N) (h0 : (6 ≤ t.val % 15 ∧ t.val % 15 ≤ 8)) (h1 : ¬¬(6 ≤ t.val % 15 ∧ t.val % 15 ≤ 8)) :
    outsAt0 V c t.val t.isLt = out0_B_1 c (grid0.coords t) (ms0_0 t) (hs0_0 t) (ms0_1 t) (hs0_1 t) ((hcond0_0 t).mpr h0) (fun h => h1 ((hcond0_1 t).mp h)) (iblk0 V c 0 t) := by
  obtain ⟨n, hn⟩ := t
  cases n with
  | zero => exact (by exfalso; (try dsimp only at h0); exact by omega)
  | succ n => exact (dif_pos h0).trans ((dif_neg h1).trans rfl)

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 800000 in
/-- The body at any point: the inputs' memrefs hold their blocks (`before0_W`); the closed forms say which case the point is in (`by_cases`), an output the case reads before covering holds what the point before left (`before0_W_κ`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl]
  have hN : t.val < 60 := lt_of_lt_of_eq t.isLt (show cfg0.N = 60 from N_0)
  by_cases h0 : (6 ≤ t.val % 15 ∧ t.val % 15 ≤ 8)
  · by_cases h1 : ¬(6 ≤ t.val % 15 ∧ t.val % 15 ≤ 8)
    · exfalso; omega
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1_B t ((hcond0_0 t).mpr h0) (fun h => h1 ((hcond0_1 t).mp h))], after0_1]
      rw [outsAt0_B V c t h0 h1]
      unfold out0_B_1
      iintro ⟨HΦ, Ho, ⟨%d0, H0⟩, ⟨%d1, H1⟩⟩
      iapply ((kernelRun0_B c (grid0.coords t) _ _ _ _ ((hcond0_0 t).mpr h0) (fun h => h1 ((hcond0_1 t).mp h)) (iblk0 V c 0 t)).2 Set.univ _)
      isplitl [H0]; · iexact H0
      isplitl [H1]; · iexists _; iexact H1
      iintro ⟨H0, ⟨%e1, H1⟩⟩
      isplitl [HΦ]; · iexact HΦ
      isplitl [Ho]; · iexact Ho
      isplitl [H0]; · iexact H0
      unfold owns; iexists _; isplitr
      swap; · iexact H1
      ipureintro; exact View.read_writes_of_cover _ _ _ _ _ (cover0_B_1 c _ _ _ _ _ _ _ _)
  · by_cases h1 : ¬(6 ≤ t.val % 15 ∧ t.val % 15 ≤ 8)
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1_A t (fun h => h0 ((hcond0_0 t).mp h)) ((hcond0_1 t).mpr h1)], after0_1]
      rw [outsAt0_A V c t h0 h1]
      unfold out0_A_1
      iintro ⟨HΦ, Ho, ⟨%d0, H0⟩, ⟨%d1, H1⟩⟩
      iapply ((kernelRun0_A c (grid0.coords t) _ _ _ _ (fun h => h0 ((hcond0_0 t).mp h)) ((hcond0_1 t).mpr h1) (iblk0 V c 0 t)).2 Set.univ _)
      isplitl [H0]; · iexact H0
      isplitl [H1]; · iexists _; iexact H1
      iintro ⟨H0, ⟨%e1, H1⟩⟩
      isplitl [HΦ]; · iexact HΦ
      isplitl [Ho]; · iexact Ho
      isplitl [H0]; · iexact H0
      unfold owns; iexists _; isplitr
      swap; · iexact H1
      ipureintro; exact View.read_writes_of_cover _ _ _ _ _ (cover0_A_1 c _ _ _ _ _ _ _ _)
    · exfalso; omega

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1_diff` (pipeline 1), at the entry contents `V` — class R -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 9, through which its contents are stated (`View.read_writes_of_cover`: the
    choice does not matter). -/
abbrev VO1_9 : View sig .tc .vmem S1x256x128 .bf16 := (Memref.whole cc1_stg9_0 : Memref sig .tc .vmem S1x256x128 .bf16).view
/-- Each window's current staging memref at point `t`, spelled as the pipeline passes it (`bodyAt1`), and its wholeness. -/
abbrev ms1_0 (t : Fin cfg1.N) : Memref sig .tc .vmem S1x256x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x15x256x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x64 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x64 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x64 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x128 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x256x128 .bf16 := win1_9.stage (cfg1.slots t 9)
abbrev hs1_9 (t : Fin cfg1.N) : (ms1_9 t).IsWhole := hstage1_9 ((cfg1.slots t 9).cast nbuf1_9)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun1_A (c : Dev nD) (i : grid1.Coords) (arg3 : Memref sig .tc .vmem S1x256x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x15x256x256 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x256x128 .bf16) (harg12 : arg12.IsWhole)
    (x0 : Vec F S1x256x128 .bf16) (x1 : Vec F S1x2048x128 .bf16) (x2 : Vec F S1x2048x128 .bf16) (x3 : Vec F S1x15x256x256 .f32) (x4 : Vec F S1x64 .f32) (x5 : Vec F S1x64 .f32) (x6 : Vec F S1x64 .f32) (x7 : Vec F S1x64 .f32) (x8 : Vec F S1x128 .f32) :
    { L9 : List (View.Piece (Elt F) S1x256x128 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ f, arg12.view.loc (c : Thread nD τ) ↦[arg12.view.set]{fullShare} arg12.view.writes (Elt F) f L9)) -∗ K ⟨⟩))
          ⊢ wp frame (wpE (defs₀ (F := F)) Variants.none c none) E (cc1_diff i arg3 harg3 arg4 harg4 arg5 harg5 arg6 harg6 arg7 harg7 arg8 harg8 arg9 harg9 arg10 harg10 arg11 harg11 arg12 harg12) K } := by
  refine ⟨?_, fun E K => ?run⟩
  case run =>
    simp only [cc1_diff_eq_skeleton]; unfold cc1_diff_skel
    simp only [k1_part8_eq_skeleton, k1_part1_eq_skeleton, k1_part2_eq_skeleton, k1_part3_eq_skeleton, k1_part4_eq_skeleton, k1_part5_eq_skeleton, k1_part6_eq_skeleton, k1_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    iexists _; iexact H9

/-- The run's pieces for output 9 tile its block (1 store of `S1x256x128`, checked by the kernel's evaluation: Lib/Ring.lean `Piece.tiledL`, linear in the pieces, through a loop's `@[irreducible]` trip theorem too), so they cover it. -/
theorem cover1_A_9 (c : Dev nD) (i : grid1.Coords) (arg3 : Memref sig .tc .vmem S1x256x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x15x256x256 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x256x128 .bf16) (harg12 : arg12.IsWhole)
    (x0 : Vec F S1x256x128 .bf16) (x1 : Vec F S1x2048x128 .bf16) (x2 : Vec F S1x2048x128 .bf16) (x3 : Vec F S1x15x256x256 .f32) (x4 : Vec F S1x64 .f32) (x5 : Vec F S1x64 .f32) (x6 : Vec F S1x64 .f32) (x7 : Vec F S1x64 .f32) (x8 : Vec F S1x128 .f32) (y : S1x256x128.Idx) :
    ∃ pc ∈ (kernelRun1_A c i arg3 harg3 arg4 harg4 arg5 harg5 arg6 harg6 arg7 harg7 arg8 harg8 arg9 harg9 arg10 harg10 arg11 harg11 arg12 harg12 x0 x1 x2 x3 x4 x5 x6 x7 x8).1, y ∈ pc.1.set :=
  View.cover_of_tiledL (kernelRun1_A c i arg3 harg3 arg4 harg4 arg5 harg5 arg6 harg6 arg7 harg7 arg8 harg8 arg9 harg9 arg10 harg10 arg11 harg11 arg12 harg12 x0 x1 x2 x3 x4 x5 x6 x7 x8).1 S1x256x128.size (by sl_kernel_rfl) y

/-- What the run leaves in output 9's staging buffer: its pieces read back over junk. -/
def out1_A_9 (c : Dev nD) (i : grid1.Coords) (arg3 : Memref sig .tc .vmem S1x256x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x15x256x256 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x256x128 .bf16) (harg12 : arg12.IsWhole)
    (x0 : Vec F S1x256x128 .bf16) (x1 : Vec F S1x2048x128 .bf16) (x2 : Vec F S1x2048x128 .bf16) (x3 : Vec F S1x15x256x256 .f32) (x4 : Vec F S1x64 .f32) (x5 : Vec F S1x64 .f32) (x6 : Vec F S1x64 .f32) (x7 : Vec F S1x64 .f32) (x8 : Vec F S1x128 .f32) : Vec F S1x256x128 .bf16 :=
  VO1_9.read (Elt F) (VO1_9.writes (Elt F) VO1_9.junk (kernelRun1_A c i arg3 harg3 arg4 harg4 arg5 harg5 arg6 harg6 arg7 harg7 arg8 harg8 arg9 harg9 arg10 harg10 arg11 harg11 arg12 harg12 x0 x1 x2 x3 x4 x5 x6 x7 x8).1)

/-! ## What the outputs hold after each point -/

/-- What the outputs' staging buffers hold after the body at point `t`: the run's contents at
    the point's memrefs and input blocks. -/
def outsAt1 (c : Dev nD) (t : Fin cfg1.N) : Vec F S1x256x128 .bf16 :=
  out1_A_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t) (iblk1 V c 5 t) (iblk1 V c 6 t) (iblk1 V c 7 t) (iblk1 V c 8 t)

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; each input's share of its array
    (`Pipeline.shareOf`: the full share of an array several windows stage, dealt among them). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => (outsAt1 V c t)
  Φ _ := Pipeline.ΦA spec1 c
  q w := Pipeline.shareOf spec1 w
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = (outsAt1 V c t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t))

set_option maxHeartbeats 800000 in
/-- The body at any point: the inputs' memrefs hold their blocks (`before1_W`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  unfold outsAt1
  unfold out1_A_9
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun1_A c (grid1.coords t) _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, ⟨%e9, H9⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr
  swap; · iexact H9
  ipureintro; exact View.read_writes_of_cover _ _ _ _ _ (cover1_A_9 c _ _ _ _ _ _ _ _ _ _ _ _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact (dat1 (V2 m ρ) c).withArrays_arrAt launch₀1.sharedIn _ (A_eq1 (V2 m ρ) c) w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays_shared`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched: no host stretch writes one and no region may change one (a region reads it
    through an input window or bypasses it) -/

theorem W3_main_arg0 (c : Dev nD) : W3 m ρ c (Proc.devRef .tc main_arg0) = m ((c : Thread nD τ).loc main_arg0) :=
  W3_args m ρ c main_arg0 (by decide)
theorem W3_main_arg1 (c : Dev nD) : W3 m ρ c (Proc.devRef .tc main_arg1) = m ((c : Thread nD τ).loc main_arg1) :=
  W3_args m ρ c main_arg1 (by decide)
theorem W3_main_arg2 (c : Dev nD) : W3 m ρ c (Proc.devRef .tc main_arg2) = m ((c : Thread nD τ).loc main_arg2) :=
  W3_args m ρ c main_arg2 (by decide)
theorem W3_main_arg3 (c : Dev nD) : W3 m ρ c (Proc.devRef .tc main_arg3) = m ((c : Thread nD τ).loc main_arg3) :=
  W3_args m ρ c main_arg3 (by decide)
theorem W3_main_arg4 (c : Dev nD) : W3 m ρ c (Proc.devRef .tc main_arg4) = m ((c : Thread nD τ).loc main_arg4) :=
  W3_args m ρ c main_arg4 (by decide)
theorem W3_main_arg5 (c : Dev nD) : W3 m ρ c (Proc.devRef .tc main_arg5) = m ((c : Thread nD τ).loc main_arg5) :=
  W3_args m ρ c main_arg5 (by decide)
theorem W3_main_arg6 (c : Dev nD) : W3 m ρ c (Proc.devRef .tc main_arg6) = m ((c : Thread nD τ).loc main_arg6) :=
  W3_args m ρ c main_arg6 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W3`, the generator register at some state. -/
abbrev Tₙ (c : Dev nD) : sProp 𝕄 := iprop(StableHlo.held (c : Thread nD τ) (Pipeline.ucRefs τ sig) (W3 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the launch reads at the end). Its arrays split out of the unscoped buffers
    (`arrays_of_unscopedBufs_shared`) and put back at the exit contents (`unscopedBufs_of_arrays_shared`; its input windows on one array (`launch₀1.sharedIn`) each dealt their share of it, `Pipeline.shareOf`, by the proof data); the generator register into the
    class invariant `ΦA` and out; nothing owed; no semaphore of the kernel's own. -/
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 3 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE FRAME: `Cert.quiescent_KernelIdeal`'s statement (Defs.lean) at any `F` — at the compiled mesh, from any
    memory with zero counters, every weakly fair execution of @main on the TensorCores terminates, nothing faulting, and every
    final state has the argument arrays as launched and every semaphore counter of the machine at zero: the kit's launch over
    the segments, the last thread state read against the final state (`pointsTo_read_all`), each argument by `W3_<arg>`;
    the kit shows every counter at zero except the TensorCores' unscoped ones, of which there are none. Proof.lean cites it at `Bits`:
    `theorem Cert.Proof.claim : Cert.Claim := ⟨Cert.KernelIdeal.Gen.facts, fun m ρ _ => Cert.KernelIdeal.Gen.frame m ρ⟩`. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ (r.2.sem = fun _ => 0)
      ∧ ∀ c : Dev nD, r.2.mem ((c.tc : Thread nD τ).loc main_v2) = W3 m ρ c (Proc.devRef .tc main_v2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨(fun c =>
      ⟨(h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c)⟩), funext fun g => hz g (.inr (no_unscoped g.2)),
      fun c => h c _ (mem_uc main_v2 (by decide))⟩)

end Cert.KernelIdeal.DiffRun

end
-- ==== Proof.DiffSpec.lean ====
/- The differential attention of one query row and one head, as mathematics over the extended reals: two score rows
   `s1`, `s2`, the exponentials over each row's maximum, the weights, the weighted values, and the RMS normalisation.
   `weightK` is the order of operations of the kernel (two row factors), `weightR` that of the reference (two softmax
   rows, the second scaled by lambda). -/
module

public import Idealize.ShloMosaic.PureOps.Ideal

@[expose] public section

noncomputable section

namespace DiffSpec

open Idealize.ShloMosaic

/-- The largest score of a row (from −∞). -/
def smax (s : Fin 2048 → EReal) : EReal := Finset.univ.fold max (Ideal.ofBits .f32 0xFF800000#32) s
/-- The exponential of a score over the row's maximum. -/
def sexp (s : Fin 2048 → EReal) (n : Fin 2048) : EReal := Ideal.exp (s n - smax s)
/-- The sum of a row's exponentials. -/
def ssum (s : Fin 2048 → EReal) : EReal := ∑ n, sexp s n
/-- The weight of key `n` as the kernel computes it. -/
def weightK (lam : EReal) (s1 s2 : Fin 2048 → EReal) (n : Fin 2048) : EReal :=
  sexp s1 n * Ideal.div 1 (ssum s1) - sexp s2 n * Ideal.div lam (ssum s2)
/-- The weight of key `n` as the reference computes it. -/
def weightR (lam : EReal) (s1 s2 : Fin 2048 → EReal) (n : Fin 2048) : EReal :=
  Ideal.div (sexp s1 n) (ssum s1) - lam * Ideal.div (sexp s2 n) (ssum s2)
/-- The weighted sum of the values. -/
def attn (w : Fin 2048 → EReal) (v : Fin 2048 → Fin 128 → EReal) (e : Fin 128) : EReal := ∑ n, w n * v n e
/-- RMS normalisation over the head's 128 lanes, its gain, and the factor 1 − lambda_init. -/
def normed (o g : Fin 128 → EReal) (e : Fin 128) : EReal :=
  o e * Ideal.rsqrt (Ideal.div (∑ x, o x * o x) (Ideal.ofBits .f32 0x43000000#32) + Ideal.ofBits .f32 0x3727C5AC#32) * g e
    * Ideal.ofBits .f32 0x3F4CCCCD#32
/-- Lambda from its four vectors. -/
def lam (q1 k1 q2 k2 : Fin 64 → EReal) : EReal :=
  Ideal.exp (∑ x, q1 x * k1 x) - Ideal.exp (∑ x, q2 x * k2 x) + Ideal.ofBits .f32 0x3E4CCCCD#32

end DiffSpec
-- ==== Proof.DiffBlock.lean ====
/- What one grid step of the differential attention leaves in its output block, as a function of the blocks it
   read: two score rows (one per half of the head's lanes), their exponentials over the row's maximum, the
   weighted difference of the two maps, its product with the values, and the RMS normalisation. -/
module

public import proofs.«01_k».proof.Proof.DiffRun
public import proofs.«01_k».proof.Proof.DiffSpec
public import Idealize.ShloMosaic.Lib.Pipeline.ValueKit
public import Idealize.ShloMosaic.Lib.Pipeline.Value
public import Idealize.ShloMosaic.Lib.Pointwise

@[expose] public section

set_option maxRecDepth 16384

noncomputable section

namespace Cert.KernelIdeal.DiffRun

open Cert.KernelIdeal.Gen
open Idealize.ShloMosaic Idealize.ShloMosaic.TcCoe Idealize.ShloMosaic.Tactic
open Idealize.SL Idealize.SL.RA Idealize.SL.BI Idealize.SL.Sem

theorem keys_inb (j : Fin 8) : ∀ a, (![0, 256 * j.val, 0] : Fin 3 → ℕ) a + S1x256x128.size a ≤ S1x2048x128.size a := by
  revert j; decide +kernel

/-- Keys `256 j … 256 j + 255`. -/
def keyBlock (x1 : Vec Ideal S1x2048x128 .bf16) (j : Fin 8) : FVec Ideal S256x128 .bf16 :=
  shapeCast (α := Elt Ideal .bf16) S256x128 (View.ld x1 (Rect.unit (s := S1x2048x128) ![0, 256 * j.val, 0] S1x256x128.size (keys_inb j))) shapeCasts_S1x256x128_S256x128

/-- The bias tile of those keys against the step's queries. -/
def biasBlock (i : grid1.Coords) (x3 : Vec Ideal S1x15x256x256 .f32) (j : Fin 8) : FVec Ideal S256x256 .f32 :=
  shapeCast (α := Elt Ideal .f32) S256x256 (View.ld x3 (Rect.unit (s := S1x15x256x256) (k1_off1 i (BitVec.ofNat 32 j.val)) S1x1x256x256.size (k1_off1_inb i j)))
      shapeCasts_S1x1x256x256_S256x256

/-- One block of 256 keys' scores: the masked queries times the keys, plus the bias tile. -/
def scoreBlock (i : grid1.Coords) (qm : FVec Ideal S256x128 .bf16) (x1 : Vec Ideal S1x2048x128 .bf16) (x3 : Vec Ideal S1x15x256x256 .f32)
    (j : Fin 8) : FVec Ideal S256x256 .f32 :=
  addf (matmul dot_S256x128_S256x128_S256x256_1_1_0_0_n_n none qm
      (keyBlock x1 j)
      (constant S256x256 .f32 0x00000000#32))
    (biasBlock i x3 j)

/-- The scores of all 2048 keys. -/
def scoreRows (i : grid1.Coords) (qm : FVec Ideal S256x128 .bf16) (x1 : Vec Ideal S1x2048x128 .bf16) (x3 : Vec Ideal S1x15x256x256 .f32) :
    FVec Ideal S256x2048 .f32 :=
  concatenate S256x2048 1 (List.ofFn fun j : Fin 8 => (⟨S256x256, scoreBlock i qm x1 x3 j⟩ : (s : Shape) × (s.Idx → Ideal .f32)))
    concatenates_S256x256_S256x256_S256x256_S256x256_S256x256_S256x256_S256x256_S256x256_S256x2048_d1

/-- The exponentials of the scores over the row's maximum. -/
def expRows (s : FVec Ideal S256x2048 .f32) : FVec Ideal S256x2048 .f32 :=
  exp (subf s (broadcastTo S256x2048 (shapeCast S256x1
    (multiReduction .maximumf [1] S256 s 0xFF800000#32 reduces_S256x2048_S256 (.inl rfl) rfl) shapeCasts_S256_S256x1) broadcasts_S256x1_S256x2048))

/-- The row sums of the exponentials. -/
def sumRows (e : FVec Ideal S256x2048 .f32) : FVec Ideal S256x1 .f32 :=
  shapeCast S256x1 (multiReduction .add [1] S256 e 0x00000000#32 reduces_S256x2048_S256 (.inl rfl) rfl) shapeCasts_S256_S256x1

/-- The step's output block as one term of the blocks read. -/
theorem out1_open (c : Dev nD) (i : grid1.Coords) (arg3 : Memref sig .tc .vmem S1x256x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x15x256x256 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x256x128 .bf16) (harg12 : arg12.IsWhole)
    (x0 : Vec Ideal S1x256x128 .bf16) (x1 : Vec Ideal S1x2048x128 .bf16) (x2 : Vec Ideal S1x2048x128 .bf16) (x3 : Vec Ideal S1x15x256x256 .f32) (x4 : Vec Ideal S1x64 .f32) (x5 : Vec Ideal S1x64 .f32) (x6 : Vec Ideal S1x64 .f32) (x7 : Vec Ideal S1x64 .f32) (x8 : Vec Ideal S1x128 .f32) :
    out1_A_9 c i arg3 harg3 arg4 harg4 arg5 harg5 arg6 harg6 arg7 harg7 arg8 harg8 arg9 harg9 arg10 harg10 arg11 harg11 arg12 harg12 x0 x1 x2 x3 x4 x5 x6 x7 x8
      = k1_pay1 (k1_pay27 (k1_pay3 x4 x5 x6 x7) (expRows (scoreRows i (k1_pay5 x0) x1 x3)) (sumRows (expRows (scoreRows i (k1_pay5 x0) x1 x3)))
          (scoreRows i (k1_pay18 (k1_pay2 x0) k1_pay4) x1 x3) x2 x8) := by
  frame_out
  rfl

theorem off1_eq (i : grid1.Coords) (j : Fin 8) : k1_off1 i (BitVec.ofNat 32 j.val) = ![0, 7 - (i 2).val + j.val, 0, 0] := by
  obtain ⟨b, hb⟩ : ∃ b : Fin 8, b = i 2 := ⟨i 2, rfl⟩
  have : ∀ (b j : Fin 8), (![0, (Scalar.indexCast (Scalar.addi (Scalar.subi 7#32 (Scalar.addi (Scalar.muli 1#32 (BitVec.ofNat 32 b.val)) 0#32)) (BitVec.ofNat 32 j.val)) : Index).toNat, 0, 0] : Fin 4 → ℕ)
      = ![0, 7 - b.val + j.val, 0, 0] := by decide +kernel
  have h := this b j
  subst hb; exact h

/-- A unit leading axis dropped by a cast, read at an index. -/
theorem cast3_apply (v : S1x256x128.Idx → Elt Ideal .bf16) (cc : Fin 256) (d : Fin 128) :
    shapeCast S256x128 v shapeCasts_S1x256x128_S256x128 (ix2 cc d) = v (ix3 0 cc d) := by
  pointwise

/-- Two unit leading axes dropped by a cast, read at an index. -/
theorem cast4_apply (v : S1x1x256x256.Idx → Elt Ideal .f32) (r cc : Fin 256) :
    shapeCast S256x256 v shapeCasts_S1x1x256x256_S256x256 (ix2 r cc) = v (ix4 0 0 r cc) := by
  pointwise

theorem keyBlock_apply (x1 : Vec Ideal S1x2048x128 .bf16) (j : Fin 8) (cc : Fin 256) (d : Fin 128) (n : Fin 2048) (hn : n.val = 256 * j.val + cc.val) :
    keyBlock x1 j (ix2 cc d) = x1 (ix3 0 n d) := by
  refine (cast3_apply _ cc d).trans (View.ld_unit_apply_of x1 _ _ _ _ _ ?_)
  intro a
  fin_cases a
  · rfl
  · exact hn
  · exact (Nat.zero_add _).symm

theorem biasBlock_apply (i : grid1.Coords) (x3 : Vec Ideal S1x15x256x256 .f32) (j : Fin 8) (r cc : Fin 256)
    (t : Fin 15) (ht : t.val = 7 - (i 2).val + j.val) : biasBlock i x3 j (ix2 r cc) = x3 (ix4 0 t r cc) := by
  refine (cast4_apply _ r cc).trans (View.ld_unit_apply_of x3 _ _ _ _ _ ?_)
  intro a
  rw [congrFun (off1_eq i j) a]
  fin_cases a
  · rfl
  · exact ht
  · exact (Nat.zero_add _).symm
  · exact (Nat.zero_add _).symm

theorem scoreBlock_apply (i : grid1.Coords) (qm : FVec Ideal S256x128 .bf16) (x1 : Vec Ideal S1x2048x128 .bf16) (x3 : Vec Ideal S1x15x256x256 .f32)
    (j : Fin 8) (r cc : Fin 256) (t : Fin 15) (ht : t.val = 7 - (i 2).val + j.val) (n : Fin 2048) (hn : n.val = 256 * j.val + cc.val) :
    scoreBlock i qm x1 x3 j (ix2 r cc) = (∑ d : Fin 128, qm (ix2 r d) * x1 (ix3 0 n d)) + x3 (ix4 0 t r cc) := by
  pointwise [scoreBlock]
  rw [biasBlock_apply i x3 j r cc t ht]
  simp only [keyBlock_apply x1 j cc _ n hn]

theorem scoreRows_apply (i : grid1.Coords) (qm : FVec Ideal S256x128 .bf16) (x1 : Vec Ideal S1x2048x128 .bf16) (x3 : Vec Ideal S1x15x256x256 .f32)
    (r : Fin 256) (n : Fin 2048) (t : Fin 15) (ht : t.val = 7 - (i 2).val + n.val / 256) :
    scoreRows i qm x1 x3 (ix2 r n) = (∑ d : Fin 128, qm (ix2 r d) * x1 (ix3 0 n d)) + x3 (ix4 0 t r ⟨n.val % 256, Nat.mod_lt _ (by decide)⟩) := by
  unfold scoreRows
  have hn := n.isLt
  refine (concatenate_ofFn_apply (t := S256x2048) (s₁ := S256x256) 1 (scoreBlock i qm x1 x3)
    concatenates_S256x256_S256x256_S256x256_S256x256_S256x256_S256x256_S256x256_S256x256_S256x2048_d1 rfl 256 rfl (ix2 r n) ⟨n.val / 256, by omega⟩ rfl (ix2 r ⟨n.val % 256, Nat.mod_lt _ (by decide)⟩) rfl
    (by intro b hb; fin_cases b; · rfl
        · exact absurd rfl hb)).trans ?_
  exact scoreBlock_apply i qm x1 x3 _ r _ t ht n (by show n.val = 256 * (n.val / 256) + n.val % 256; omega)

theorem expRows_apply (s : FVec Ideal S256x2048 .f32) (r : Fin 256) (n : Fin 2048) :
    expRows s (ix2 r n) = DiffSpec.sexp (fun k => s (ix2 r k)) n := by
  pointwise [expRows]
  rfl

theorem sumRows_apply (e : FVec Ideal S256x2048 .f32) (r : Fin 256) : sumRows e (ix2 r 0) = ∑ n : Fin 2048, e (ix2 r n) := by
  pointwise [sumRows]

theorem slt64 (d : Fin 128) : IntOp.cmpi CmpIPredicate.slt (BitVec.ofNat 32 d.val) 64#32 = if d.val < 64 then 1#1 else 0#1 := by
  revert d; decide +kernel

theorem qlo_apply (x0 : Vec Ideal S1x256x128 .bf16) (r : Fin 256) (d : Fin 128) :
    k1_pay5 x0 (ix2 r d) = if d.val < 64 then x0 (ix3 0 r d) * Ideal.ofBits .f32 0x3E000000#32 else 0 := by
  pointwise [k1_pay5, k1_pay2]
  rw [slt64]
  split <;> rfl

theorem qhi_apply (x0 : Vec Ideal S1x256x128 .bf16) (r : Fin 256) (d : Fin 128) :
    k1_pay18 (k1_pay2 x0) k1_pay4 (ix2 r d) = if d.val < 64 then 0 else x0 (ix3 0 r d) * Ideal.ofBits .f32 0x3E000000#32 := by
  pointwise [k1_pay18, k1_pay2, k1_pay4]
  rw [slt64]
  split <;> rfl

theorem lam_apply (x4 x5 x6 x7 : Vec Ideal S1x64 .f32) :
    k1_pay3 x4 x5 x6 x7 (ix2 0 0) = DiffSpec.lam (fun d => x4 (ix2 0 d)) (fun d => x5 (ix2 0 d)) (fun d => x6 (ix2 0 d)) (fun d => x7 (ix2 0 d)) := by
  pointwise [k1_pay3]
  rfl

theorem out_apply (v16 : FVec Ideal S1x1 .f32) (s1 : FVec Ideal S256x2048 .f32)
    (s2 : FVec Ideal S256x2048 .f32) (x2 : Vec Ideal S1x2048x128 .bf16) (x8 : Vec Ideal S1x128 .f32) (r : Fin 256) (e : Fin 128) :
    k1_pay1 (k1_pay27 v16 (expRows s1) (sumRows (expRows s1)) s2 x2 x8) (ix3 0 r e)
      = DiffSpec.normed (DiffSpec.attn (DiffSpec.weightK (v16 (ix2 0 0)) (fun k => s1 (ix2 r k)) (fun k => s2 (ix2 r k))) (fun n e' => x2 (ix3 0 n e')))
          (fun e' => x8 (ix2 0 e')) e := by
  pointwise [k1_pay1, k1_pay27]
  simp only [sumRows_apply, expRows_apply]
  rfl

theorem slot_lt (b : Fin 8) (n : Fin 2048) : 7 - b.val + n.val / 256 < 15 := by omega

/-- One score of the first map: the head's first 64 lanes. -/
def sc1 (x0 : Vec Ideal S1x256x128 .bf16) (x1 : Vec Ideal S1x2048x128 .bf16) (x3 : Vec Ideal S1x15x256x256 .f32) (b : Fin 8) (r : Fin 256) (n : Fin 2048) : EReal :=
  (∑ d : Fin 128, (if d.val < 64 then x0 (ix3 0 r d) * Ideal.ofBits .f32 0x3E000000#32 else 0) * x1 (ix3 0 n d))
    + x3 (ix4 0 ⟨7 - b.val + n.val / 256, by omega⟩ r ⟨n.val % 256, Nat.mod_lt _ (by decide)⟩)
/-- One score of the second map: the head's last 64 lanes. -/
def sc2 (x0 : Vec Ideal S1x256x128 .bf16) (x1 : Vec Ideal S1x2048x128 .bf16) (x3 : Vec Ideal S1x15x256x256 .f32) (b : Fin 8) (r : Fin 256) (n : Fin 2048) : EReal :=
  (∑ d : Fin 128, (if d.val < 64 then 0 else x0 (ix3 0 r d) * Ideal.ofBits .f32 0x3E000000#32) * x1 (ix3 0 n d))
    + x3 (ix4 0 ⟨7 - b.val + n.val / 256, by omega⟩ r ⟨n.val % 256, Nat.mod_lt _ (by decide)⟩)

/-- The step's output at row `r`, lane `e`. -/
theorem out1_apply (c : Dev nD) (i : grid1.Coords) (arg3 : Memref sig .tc .vmem S1x256x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x15x256x256 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x256x128 .bf16) (harg12 : arg12.IsWhole)
    (x0 : Vec Ideal S1x256x128 .bf16) (x1 : Vec Ideal S1x2048x128 .bf16) (x2 : Vec Ideal S1x2048x128 .bf16) (x3 : Vec Ideal S1x15x256x256 .f32) (x4 : Vec Ideal S1x64 .f32) (x5 : Vec Ideal S1x64 .f32) (x6 : Vec Ideal S1x64 .f32) (x7 : Vec Ideal S1x64 .f32) (x8 : Vec Ideal S1x128 .f32) (r : Fin 256) (e : Fin 128) :
    out1_A_9 c i arg3 harg3 arg4 harg4 arg5 harg5 arg6 harg6 arg7 harg7 arg8 harg8 arg9 harg9 arg10 harg10 arg11 harg11 arg12 harg12 x0 x1 x2 x3 x4 x5 x6 x7 x8 (ix3 0 r e)
      = DiffSpec.normed (DiffSpec.attn
          (DiffSpec.weightK (DiffSpec.lam (fun d => x4 (ix2 0 d)) (fun d => x5 (ix2 0 d)) (fun d => x6 (ix2 0 d)) (fun d => x7 (ix2 0 d)))
            (sc1 x0 x1 x3 (i 2) r) (sc2 x0 x1 x3 (i 2) r)) (fun n e' => x2 (ix3 0 n e')))
          (fun e' => x8 (ix2 0 e')) e := by
  rw [out1_open, out_apply, lam_apply]
  congr 4
  · funext n
    rw [scoreRows_apply i _ x1 x3 r n ⟨7 - (i 2).val + n.val / 256, slot_lt (i 2) n⟩ rfl]
    simp only [qlo_apply]; rfl
  · funext n
    rw [scoreRows_apply i _ x1 x3 r n ⟨7 - (i 2).val + n.val / 256, slot_lt (i 2) n⟩ rfl]
    simp only [qhi_apply]; rfl

end Cert.KernelIdeal.DiffRun
-- ==== Proof.DiffArr.lean ====
/- What the result array of the differential attention holds after the launch, at batch `b`, token `q`, lane
   `128 h + e`: the step's row value at the rows and lanes of the projection, the bias tiles and the gain. -/
module

public import proofs.«01_k».proof.Proof.DiffBlock

@[expose] public section

set_option maxRecDepth 16384

noncomputable section

namespace Cert.KernelIdeal.DiffRun

open Cert.KernelIdeal.Gen
open Idealize.ShloMosaic Idealize.ShloMosaic.TcCoe Idealize.ShloMosaic.Tactic
open Idealize.SL Idealize.SL.RA Idealize.SL.BI Idealize.SL.Sem

theorem ix1_0 : ∀ t : Fin cfg1.N, win1_0.index t = ![(grid1.coords t 1).val, (grid1.coords t 2).val, 12 + (grid1.coords t 0).val] :=
  (by decide +kernel : ∀ t : Fin grid1.N, win1_0.index t = ![(grid1.coords t 1).val, (grid1.coords t 2).val, 12 + (grid1.coords t 0).val])
theorem ix1_1 : ∀ t : Fin cfg1.N, win1_1.index t = ![(grid1.coords t 1).val, 0, 16 + (grid1.coords t 0).val] :=
  (by decide +kernel : ∀ t : Fin grid1.N, win1_1.index t = ![(grid1.coords t 1).val, 0, 16 + (grid1.coords t 0).val])
theorem ix1_2 : ∀ t : Fin cfg1.N, win1_2.index t = ![(grid1.coords t 1).val, 0, 20 + (grid1.coords t 0).val] :=
  (by decide +kernel : ∀ t : Fin grid1.N, win1_2.index t = ![(grid1.coords t 1).val, 0, 20 + (grid1.coords t 0).val])
theorem ix1_3 : ∀ t : Fin cfg1.N, win1_3.index t = ![(grid1.coords t 0).val, 0, 0, 0] :=
  (by decide +kernel : ∀ t : Fin grid1.N, win1_3.index t = ![(grid1.coords t 0).val, 0, 0, 0])
theorem ix1_4 : ∀ t : Fin cfg1.N, win1_4.index t = ![0, 0] := (by decide +kernel : ∀ t : Fin grid1.N, win1_4.index t = ![0, 0])
theorem ix1_5 : ∀ t : Fin cfg1.N, win1_5.index t = ![0, 0] := (by decide +kernel : ∀ t : Fin grid1.N, win1_5.index t = ![0, 0])
theorem ix1_6 : ∀ t : Fin cfg1.N, win1_6.index t = ![0, 0] := (by decide +kernel : ∀ t : Fin grid1.N, win1_6.index t = ![0, 0])
theorem ix1_7 : ∀ t : Fin cfg1.N, win1_7.index t = ![0, 0] := (by decide +kernel : ∀ t : Fin grid1.N, win1_7.index t = ![0, 0])
theorem ix1_8 : ∀ t : Fin cfg1.N, win1_8.index t = ![0, 0] := (by decide +kernel : ∀ t : Fin grid1.N, win1_8.index t = ![0, 0])
theorem ix1_9 : ∀ t : Fin cfg1.N, win1_9.index t = ![(grid1.coords t 1).val, (grid1.coords t 2).val, (grid1.coords t 0).val] :=
  (by decide +kernel : ∀ t : Fin grid1.N, win1_9.index t = ![(grid1.coords t 1).val, (grid1.coords t 2).val, (grid1.coords t 0).val])

variable (V : (c : Dev nD) → (b : Ref sig .tc) → Buf (Elt Ideal) ((c : Thread nD τ).loc b))

/-- The step's queries: block row `r`, lane `d` of batch `b`'s head `h` among the differential queries. -/
theorem blk1_0 (c : Dev nD) (t : Fin cfg1.N) (r : Fin 256) (d : Fin 128) (b : Fin 8) (q : Fin 2048) (l : Fin 3072)
    (hb : b.val = (grid1.coords t 1).val) (hq : q.val = 256 * (grid1.coords t 2).val + r.val) (hl : l.val = 128 * (12 + (grid1.coords t 0).val) + d.val) :
    iblk1 V c 0 t (ix3 0 r d) = (V c main_arg0 : S8x2048x3072.Idx → EReal) (ix3 b q l) := by
  blk_ext [iblk1, ix1_0]
/-- The step's keys. -/
theorem blk1_1 (c : Dev nD) (t : Fin cfg1.N) (r : Fin 2048) (d : Fin 128) (b : Fin 8) (l : Fin 3072)
    (hb : b.val = (grid1.coords t 1).val) (hl : l.val = 128 * (16 + (grid1.coords t 0).val) + d.val) :
    iblk1 V c 1 t (ix3 0 r d) = (V c main_arg0 : S8x2048x3072.Idx → EReal) (ix3 b r l) := by
  blk_ext [iblk1, ix1_1]
/-- The step's values. -/
theorem blk1_2 (c : Dev nD) (t : Fin cfg1.N) (r : Fin 2048) (d : Fin 128) (b : Fin 8) (l : Fin 3072)
    (hb : b.val = (grid1.coords t 1).val) (hl : l.val = 128 * (20 + (grid1.coords t 0).val) + d.val) :
    iblk1 V c 2 t (ix3 0 r d) = (V c main_arg0 : S8x2048x3072.Idx → EReal) (ix3 b r l) := by
  blk_ext [iblk1, ix1_2]
/-- The head's fifteen bias tiles. -/
theorem blk1_3 (c : Dev nD) (t : Fin cfg1.N) (s : Fin 15) (r cc : Fin 256) (h : Fin 4) (hh : h.val = (grid1.coords t 0).val) :
    iblk1 V c 3 t (ix4 0 s r cc) = (V c main_v1 : S4x15x256x256.Idx → EReal) (ix4 h s r cc) := by
  blk_ext [iblk1, ix1_3]
theorem blk1_4 (c : Dev nD) (t : Fin cfg1.N) (d : Fin 64) : iblk1 V c 4 t (ix2 0 d) = (V c main_arg2 : S1x64.Idx → EReal) (ix2 0 d) := by
  blk_ext [iblk1, ix1_4]
theorem blk1_5 (c : Dev nD) (t : Fin cfg1.N) (d : Fin 64) : iblk1 V c 5 t (ix2 0 d) = (V c main_arg3 : S1x64.Idx → EReal) (ix2 0 d) := by
  blk_ext [iblk1, ix1_5]
theorem blk1_6 (c : Dev nD) (t : Fin cfg1.N) (d : Fin 64) : iblk1 V c 6 t (ix2 0 d) = (V c main_arg4 : S1x64.Idx → EReal) (ix2 0 d) := by
  blk_ext [iblk1, ix1_6]
theorem blk1_7 (c : Dev nD) (t : Fin cfg1.N) (d : Fin 64) : iblk1 V c 7 t (ix2 0 d) = (V c main_arg5 : S1x64.Idx → EReal) (ix2 0 d) := by
  blk_ext [iblk1, ix1_7]
theorem blk1_8 (c : Dev nD) (t : Fin cfg1.N) (d : Fin 128) : iblk1 V c 8 t (ix2 0 d) = (V c main_arg6 : S1x128.Idx → EReal) (ix2 0 d) := by
  blk_ext [iblk1, ix1_8]

/-- One score of the first map of head `h`: batch `b`, query `q`, key `n`, over the projection `P` and the bias tiles `B`. -/
def ks1 (P : S8x2048x3072.Idx → EReal) (B : S4x15x256x256.Idx → EReal) (b : Fin 8) (h : Fin 4) (q n : Fin 2048) : EReal :=
  (∑ d : Fin 128, (if d.val < 64 then P (ix3 b q ⟨1536 + 128 * h.val + d.val, by omega⟩) * Ideal.ofBits .f32 0x3E000000#32 else 0)
      * P (ix3 b n ⟨2048 + 128 * h.val + d.val, by omega⟩))
    + B (ix4 h ⟨7 - q.val / 256 + n.val / 256, by omega⟩ ⟨q.val % 256, Nat.mod_lt _ (by decide)⟩ ⟨n.val % 256, Nat.mod_lt _ (by decide)⟩)
/-- One score of the second map. -/
def ks2 (P : S8x2048x3072.Idx → EReal) (B : S4x15x256x256.Idx → EReal) (b : Fin 8) (h : Fin 4) (q n : Fin 2048) : EReal :=
  (∑ d : Fin 128, (if d.val < 64 then 0 else P (ix3 b q ⟨1536 + 128 * h.val + d.val, by omega⟩) * Ideal.ofBits .f32 0x3E000000#32)
      * P (ix3 b n ⟨2048 + 128 * h.val + d.val, by omega⟩))
    + B (ix4 h ⟨7 - q.val / 256 + n.val / 256, by omega⟩ ⟨q.val % 256, Nat.mod_lt _ (by decide)⟩ ⟨n.val % 256, Nat.mod_lt _ (by decide)⟩)

/-- The kernel's result at batch `b`, query `q`, head `h`, lane `e`. -/
def kout (P : S8x2048x3072.Idx → EReal) (B : S4x15x256x256.Idx → EReal) (q1 k1 q2 k2 : S1x64.Idx → EReal) (g : S1x128.Idx → EReal)
    (b : Fin 8) (q : Fin 2048) (h : Fin 4) (e : Fin 128) : EReal :=
  DiffSpec.normed (DiffSpec.attn
      (DiffSpec.weightK (DiffSpec.lam (fun d => q1 (ix2 0 d)) (fun d => k1 (ix2 0 d)) (fun d => q2 (ix2 0 d)) (fun d => k2 (ix2 0 d)))
        (ks1 P B b h q) (ks2 P B b h q)) (fun n e' => P (ix3 b n ⟨2560 + 128 * h.val + e'.val, by omega⟩)))
    (fun e' => g (ix2 0 e')) e

/-- The result array as one function of its index. -/
def koutArr (P : S8x2048x3072.Idx → EReal) (B : S4x15x256x256.Idx → EReal) (q1 k1 q2 k2 : S1x64.Idx → EReal) (g : S1x128.Idx → EReal) :
    S8x2048x512.Idx → EReal := fun i =>
  kout P B q1 k1 q2 k2 g (i 0) (i 1) ⟨(i 2).val / 128, by have h := (i 2).isLt; change (i 2).val < 512 at h; omega⟩ ⟨(i 2).val % 128, Nat.mod_lt _ (by decide)⟩

theorem sc1_eq (c : Dev nD) (t : Fin cfg1.N) (r : Fin 256) (b : Fin 8) (q : Fin 2048) (h : Fin 4)
    (hb : b.val = (grid1.coords t 1).val) (hq : q.val = 256 * (grid1.coords t 2).val + r.val) (hh : h.val = (grid1.coords t 0).val) :
    sc1 (iblk1 V c 0 t) (iblk1 V c 1 t) (iblk1 V c 3 t) (grid1.coords t 2) r = ks1 (V c main_arg0) (V c main_v1) b h q := by
  funext n
  have hr := r.isLt
  have hq0 : q.val / 256 = (grid1.coords t 2).val := by omega
  have hq1 : (⟨q.val % 256, Nat.mod_lt _ (by decide)⟩ : Fin 256) = r := Fin.ext (by show q.val % 256 = r.val; omega)
  unfold sc1 ks1
  refine congrArg₂ (· + ·) (Finset.sum_congr rfl fun d _ => ?_) ?_
  · rw [blk1_0 V c t r d b q ⟨1536 + 128 * h.val + d.val, by omega⟩ hb hq (by show 1536 + 128 * h.val + d.val = _; omega),
      blk1_1 V c t n d b ⟨2048 + 128 * h.val + d.val, by omega⟩ hb (by show 2048 + 128 * h.val + d.val = _; omega)]
  · rw [blk1_3 V c t _ r _ h hh, hq1]
    refine congrArg (V c main_v1 : S4x15x256x256.Idx → EReal) (congrArg (fun s => ix4 h s r _) (Fin.ext ?_))
    show 7 - (grid1.coords t 2).val + n.val / 256 = 7 - q.val / 256 + n.val / 256
    rw [hq0]

theorem sc2_eq (c : Dev nD) (t : Fin cfg1.N) (r : Fin 256) (b : Fin 8) (q : Fin 2048) (h : Fin 4)
    (hb : b.val = (grid1.coords t 1).val) (hq : q.val = 256 * (grid1.coords t 2).val + r.val) (hh : h.val = (grid1.coords t 0).val) :
    sc2 (iblk1 V c 0 t) (iblk1 V c 1 t) (iblk1 V c 3 t) (grid1.coords t 2) r = ks2 (V c main_arg0) (V c main_v1) b h q := by
  funext n
  have hr := r.isLt
  have hq0 : q.val / 256 = (grid1.coords t 2).val := by omega
  have hq1 : (⟨q.val % 256, Nat.mod_lt _ (by decide)⟩ : Fin 256) = r := Fin.ext (by show q.val % 256 = r.val; omega)
  unfold sc2 ks2
  refine congrArg₂ (· + ·) (Finset.sum_congr rfl fun d _ => ?_) ?_
  · rw [blk1_0 V c t r d b q ⟨1536 + 128 * h.val + d.val, by omega⟩ hb hq (by show 1536 + 128 * h.val + d.val = _; omega),
      blk1_1 V c t n d b ⟨2048 + 128 * h.val + d.val, by omega⟩ hb (by show 2048 + 128 * h.val + d.val = _; omega)]
  · rw [blk1_3 V c t _ r _ h hh, hq1]
    refine congrArg (V c main_v1 : S4x15x256x256.Idx → EReal) (congrArg (fun s => ix4 h s r _) (Fin.ext ?_))
    show 7 - (grid1.coords t 2).val + n.val / 256 = 7 - q.val / 256 + n.val / 256
    rw [hq0]

/-- Where the step's row `r`, lane `e` stands in the result. -/
theorem emb1_9 (t : Fin cfg1.N) (r : Fin 256) (e : Fin 128) (b : Fin 8) (q : Fin 2048) (l : Fin 512)
    (hb : b.val = (grid1.coords t 1).val) (hq : q.val = 256 * (grid1.coords t 2).val + r.val) (hl : l.val = 128 * (grid1.coords t 0).val + e.val) :
    (win1_9.blk t).view.emb (ix3 0 r e) = ix3 b q l := by
  blk_ext [ix1_9]

/-- What the step leaves at row `r`, lane `e`. -/
theorem outsAt1_apply (c : Dev nD) (t : Fin cfg1.N) (r : Fin 256) (e : Fin 128) (b : Fin 8) (q : Fin 2048) (h : Fin 4)
    (hb : b.val = (grid1.coords t 1).val) (hq : q.val = 256 * (grid1.coords t 2).val + r.val) (hh : h.val = (grid1.coords t 0).val) :
    outsAt1 V c t (ix3 0 r e)
      = kout (V c main_arg0) (V c main_v1) (V c main_arg2) (V c main_arg3) (V c main_arg4) (V c main_arg5) (V c main_arg6) b q h e := by
  unfold outsAt1 kout
  rw [out1_apply, sc1_eq V c t r b q h hb hq hh, sc2_eq V c t r b q h hb hq hh]
  simp only [blk1_4, blk1_5, blk1_6, blk1_7, blk1_8]
  congr 2
  funext n e'
  exact blk1_2 V c t n e' b _ hb (by show 2560 + 128 * h.val + e'.val = _; omega)

/-- The result array after the launch. -/
theorem arr1_9 (c : Dev nD) : (dat1 V c).arrAt 9 cfg1.N
    = koutArr (V c main_arg0) (V c main_v1) (V c main_arg2) (V c main_arg3) (V c main_arg4) (V c main_arg5) (V c main_arg6) := by
  refine (dat1 V c).arrAt_eq_of_covers 9 _ (by decide +kernel) fun t hf y => ?_
  blk_simp
  rw [after1_9]
  obtain ⟨r, e, rfl⟩ : ∃ (r : Fin 256) (e : Fin 128), y = ix3 0 r e :=
    ⟨y 1, y 2, (eq_ix3 (y : S1x256x128.Idx)).trans (congrArg (fun z => ix3 z (y 1) (y 2)) (Subsingleton.elim (α := Fin 1) _ _))⟩
  have h0 : (grid1.coords t 0).val < 4 := (grid1.coords t 0).isLt
  have h1 : (grid1.coords t 1).val < 8 := (grid1.coords t 1).isLt
  have h2 : (grid1.coords t 2).val < 8 := (grid1.coords t 2).isLt
  have hr := r.isLt
  have he := e.isLt
  refine (outsAt1_apply V c t r e ⟨_, h1⟩ ⟨256 * (grid1.coords t 2).val + r.val, by omega⟩ ⟨_, h0⟩ rfl rfl rfl).trans ?_
  refine Eq.trans ?_ (congrArg _ (emb1_9 t r e ⟨_, h1⟩ ⟨256 * (grid1.coords t 2).val + r.val, by omega⟩
    ⟨128 * (grid1.coords t 0).val + e.val, by omega⟩ rfl rfl rfl)).symm
  unfold koutArr
  refine congrArg₂ (fun (h : Fin 4) (e : Fin 128) => kout _ _ _ _ _ _ _ _ _ h e) (Fin.ext ?_) (Fin.ext ?_)
  · show (grid1.coords t 0).val = (128 * (grid1.coords t 0).val + e.val) / 128
    omega
  · show e.val = (128 * (grid1.coords t 0).val + e.val) % 128
    omega

end Cert.KernelIdeal.DiffRun
-- ==== Proof.Bucket.lean ====
/- The relative-position bucket of a key-minus-query distance (32 buckets, distances up to 128): the kernel's
   thresholds as integers. -/
module

public import Mathlib.Tactic.Linarith
public import Mathlib.Data.Int.Interval

@[expose] public section

namespace Bucket

/-- The bucket of a distance of at least 8: 8 plus the number of thresholds reached. -/
def large (n : ℕ) : ℕ :=
  8 + (if 12 ≤ n then 1 else 0) + (if 16 ≤ n then 1 else 0) + (if 23 ≤ n then 1 else 0) + (if 32 ≤ n then 1 else 0)
    + (if 46 ≤ n then 1 else 0) + (if 64 ≤ n then 1 else 0) + (if 91 ≤ n then 1 else 0)

/-- The bucket of a signed distance. -/
def bucket (z : ℤ) : ℕ := (if 0 < z then 16 else 0) + (if z.natAbs < 8 then z.natAbs else large z.natAbs)

theorem large_le (n : ℕ) : large n ≤ 15 := by unfold large; split_ifs <;> omega

theorem bucket_lt (z : ℤ) : bucket z < 32 := by
  have := large_le z.natAbs
  unfold bucket; split_ifs <;> omega

theorem bucket_far_pos (z : ℤ) (h : 91 ≤ z) : bucket z = 31 := by
  unfold bucket large; rw [if_pos (by omega), if_neg (by omega)]; split_ifs <;> omega

theorem bucket_far_neg (z : ℤ) (h : z ≤ -91) : bucket z = 15 := by
  unfold bucket large; rw [if_neg (by omega), if_neg (by omega)]; split_ifs <;> omega

end Bucket
-- ==== Proof.T5Tile.lean ====
/- What one grid step of the bias-tile kernel leaves: a tile of the relative-position bias. -/
module

public import proofs.«01_k».proof.Proof.DiffRun
public import Idealize.ShloMosaic.Lib.Pipeline.ValueKit
public import Idealize.ShloMosaic.Lib.Pipeline.Value
public import Idealize.ShloMosaic.Lib.Pointwise
public import proofs.«01_k».proof.Proof.Bucket

@[expose] public section

set_option maxRecDepth 16384

noncomputable section

namespace Cert.KernelIdeal.DiffRun

open Cert.KernelIdeal.Gen
open Idealize.ShloMosaic Idealize.ShloMosaic.TcCoe Idealize.ShloMosaic.Tactic
open Idealize.SL Idealize.SL.RA Idealize.SL.BI Idealize.SL.Sem

/-- Where the bias of bucket `k` and the step's head stands in the flat table. -/
def slot (i : grid0.Coords) (k : Fin 32) : Fin 128 := ⟨4 * k.val + (i 0).val, by have h : (i 0).val < 4 := (i 0).isLt; omega⟩

/-- The bias of bucket `k` for the step's head. -/
def tab (x0 : Vec Ideal S128 .f32) (i : grid0.Coords) (k : Fin 32) : EReal := x0 (ix1 (slot i k))

theorem off0_1 (i : grid0.Coords) (k : Fin 32) : k0_off1 i (BitVec.ofNat 32 (4 * k.val)) = ![4 * k.val + (i 0).val] := by
  have : ∀ (h : Fin 4) (k : Fin 32), (![(Scalar.indexCast (Scalar.addi (BitVec.ofNat 32 (4 * k.val)) (BitVec.ofNat 32 h.val)) : Index).toNat] : Fin 1 → ℕ)
      = ![4 * k.val + h.val] := by decide +kernel
  exact this (i 0) k

theorem ld_tab (x0 : Vec Ideal S128 .f32) (i : grid0.Coords) (k : Fin 32) (inb) (y) :
    View.ld x0 (Rect.unit (s := S128) (k0_off1 i (BitVec.ofNat 32 (4 * k.val))) ![1] inb) y = tab x0 i k := by
  refine View.ld_unit_apply_of x0 _ _ _ _ _ ?_
  intro a
  rw [congrFun (off0_1 i k) a]
  fin_cases a
  have hy : (y 0).val < 1 := (y 0).isLt
  show 4 * k.val + (i 0).val = 4 * k.val + (i 0).val + (y 0).val
  omega

/-- The far tile: one table entry, by the sign of the tile's distance. -/
theorem outA_apply (c : Dev nD) (i : grid0.Coords) (arg2 : Memref sig .tc .smem S128 .f32) (harg2 : arg2.IsWhole) (arg3 : Memref sig .tc .vmem S1x1x256x256 .f32) (harg3 : arg3.IsWhole) (h0 : ¬cond0_0 i) (h1 : cond0_1 i) (x0 : Vec Ideal S128 .f32) (r cc : Fin 256) :
    out0_A_1 c i arg2 harg2 arg3 harg3 h0 h1 x0 (ix4 0 0 r cc) = if 7 < (i 1).val then tab x0 i 31 else tab x0 i 15 := by
  frame_out
  have e1 : ∀ inb y, View.ld x0 (Rect.unit (s := S128) (k0_off2 i 124#32) ![1] inb) y = tab x0 i 31 := fun inb y => ld_tab x0 i 31 inb y
  have e2 : ∀ inb y, View.ld x0 (Rect.unit (s := S128) (k0_off2 i 60#32) ![1] inb) y = tab x0 i 15 := fun inb y => ld_tab x0 i 15 inb y
  simp only [e1, e2]
  pointwise [k0_pay2]
  have : ∀ s : Fin 15, Scalar.cmpi CmpIPredicate.sgt (Scalar.subi (BitVec.ofNat 32 s.val) 7#32) 0#32 = if 7 < s.val then 1#1 else 0#1 := by decide +kernel
  rw [this (i 1)]
  split <;> rfl

/-- The bucket words of the near tile. -/
def bwords (v0 : BitVec 32) : IVec S256x256 32 := k0_pay7 (k0_pay3 v0) (k0_pay4 v0) (k0_pay5 v0) (k0_pay6 v0) 1#32 0#32

theorem outB_open (c : Dev nD) (i : grid0.Coords) (arg2 : Memref sig .tc .smem S128 .f32) (harg2 : arg2.IsWhole) (arg3 : Memref sig .tc .vmem S1x1x256x256 .f32) (harg3 : arg3.IsWhole) (h0 : cond0_0 i) (h1 : ¬cond0_1 i) (x0 : Vec Ideal S128 .f32) (r cc : Fin 256) (b : Fin 32)
    (hb : bwords (Scalar.subi (BitVec.ofNat 32 (i 1).val) 7#32) (ix2 r cc) = BitVec.ofNat 32 b.val) :
    out0_B_1 c i arg2 harg2 arg3 harg3 h0 h1 x0 (ix4 0 0 r cc) = tab x0 i b := by
  frame_out
  have l0 : ∀ inb y, View.ld x0 (Rect.unit (s := S128) (k0_off1 i 0#32) ![1] inb) y = tab x0 i 0 := fun inb y => ld_tab x0 i 0 inb y
  have l1 : ∀ inb y, View.ld x0 (Rect.unit (s := S128) (k0_off1 i 4#32) ![1] inb) y = tab x0 i 1 := fun inb y => ld_tab x0 i 1 inb y
  have l2 : ∀ inb y, View.ld x0 (Rect.unit (s := S128) (k0_off1 i 8#32) ![1] inb) y = tab x0 i 2 := fun inb y => ld_tab x0 i 2 inb y
  have l3 : ∀ inb y, View.ld x0 (Rect.unit (s := S128) (k0_off1 i 12#32) ![1] inb) y = tab x0 i 3 := fun inb y => ld_tab x0 i 3 inb y
  have l4 : ∀ inb y, View.ld x0 (Rect.unit (s := S128) (k0_off1 i 16#32) ![1] inb) y = tab x0 i 4 := fun inb y => ld_tab x0 i 4 inb y
  have l5 : ∀ inb y, View.ld x0 (Rect.unit (s := S128) (k0_off1 i 20#32) ![1] inb) y = tab x0 i 5 := fun inb y => ld_tab x0 i 5 inb y
  have l6 : ∀ inb y, View.ld x0 (Rect.unit (s := S128) (k0_off1 i 24#32) ![1] inb) y = tab x0 i 6 := fun inb y => ld_tab x0 i 6 inb y
  have l7 : ∀ inb y, View.ld x0 (Rect.unit (s := S128) (k0_off1 i 28#32) ![1] inb) y = tab x0 i 7 := fun inb y => ld_tab x0 i 7 inb y
  have l8 : ∀ inb y, View.ld x0 (Rect.unit (s := S128) (k0_off1 i 32#32) ![1] inb) y = tab x0 i 8 := fun inb y => ld_tab x0 i 8 inb y
  have l9 : ∀ inb y, View.ld x0 (Rect.unit (s := S128) (k0_off1 i 36#32) ![1] inb) y = tab x0 i 9 := fun inb y => ld_tab x0 i 9 inb y
  have l10 : ∀ inb y, View.ld x0 (Rect.unit (s := S128) (k0_off1 i 40#32) ![1] inb) y = tab x0 i 10 := fun inb y => ld_tab x0 i 10 inb y
  have l11 : ∀ inb y, View.ld x0 (Rect.unit (s := S128) (k0_off1 i 44#32) ![1] inb) y = tab x0 i 11 := fun inb y => ld_tab x0 i 11 inb y
  have l12 : ∀ inb y, View.ld x0 (Rect.unit (s := S128) (k0_off1 i 48#32) ![1] inb) y = tab x0 i 12 := fun inb y => ld_tab x0 i 12 inb y
  have l13 : ∀ inb y, View.ld x0 (Rect.unit (s := S128) (k0_off1 i 52#32) ![1] inb) y = tab x0 i 13 := fun inb y => ld_tab x0 i 13 inb y
  have l14 : ∀ inb y, View.ld x0 (Rect.unit (s := S128) (k0_off1 i 56#32) ![1] inb) y = tab x0 i 14 := fun inb y => ld_tab x0 i 14 inb y
  have l15 : ∀ inb y, View.ld x0 (Rect.unit (s := S128) (k0_off1 i 60#32) ![1] inb) y = tab x0 i 15 := fun inb y => ld_tab x0 i 15 inb y
  have l16 : ∀ inb y, View.ld x0 (Rect.unit (s := S128) (k0_off1 i 64#32) ![1] inb) y = tab x0 i 16 := fun inb y => ld_tab x0 i 16 inb y
  have l17 : ∀ inb y, View.ld x0 (Rect.unit (s := S128) (k0_off1 i 68#32) ![1] inb) y = tab x0 i 17 := fun inb y => ld_tab x0 i 17 inb y
  have l18 : ∀ inb y, View.ld x0 (Rect.unit (s := S128) (k0_off1 i 72#32) ![1] inb) y = tab x0 i 18 := fun inb y => ld_tab x0 i 18 inb y
  have l19 : ∀ inb y, View.ld x0 (Rect.unit (s := S128) (k0_off1 i 76#32) ![1] inb) y = tab x0 i 19 := fun inb y => ld_tab x0 i 19 inb y
  have l20 : ∀ inb y, View.ld x0 (Rect.unit (s := S128) (k0_off1 i 80#32) ![1] inb) y = tab x0 i 20 := fun inb y => ld_tab x0 i 20 inb y
  have l21 : ∀ inb y, View.ld x0 (Rect.unit (s := S128) (k0_off1 i 84#32) ![1] inb) y = tab x0 i 21 := fun inb y => ld_tab x0 i 21 inb y
  have l22 : ∀ inb y, View.ld x0 (Rect.unit (s := S128) (k0_off1 i 88#32) ![1] inb) y = tab x0 i 22 := fun inb y => ld_tab x0 i 22 inb y
  have l23 : ∀ inb y, View.ld x0 (Rect.unit (s := S128) (k0_off1 i 92#32) ![1] inb) y = tab x0 i 23 := fun inb y => ld_tab x0 i 23 inb y
  have l24 : ∀ inb y, View.ld x0 (Rect.unit (s := S128) (k0_off1 i 96#32) ![1] inb) y = tab x0 i 24 := fun inb y => ld_tab x0 i 24 inb y
  have l25 : ∀ inb y, View.ld x0 (Rect.unit (s := S128) (k0_off1 i 100#32) ![1] inb) y = tab x0 i 25 := fun inb y => ld_tab x0 i 25 inb y
  have l26 : ∀ inb y, View.ld x0 (Rect.unit (s := S128) (k0_off1 i 104#32) ![1] inb) y = tab x0 i 26 := fun inb y => ld_tab x0 i 26 inb y
  have l27 : ∀ inb y, View.ld x0 (Rect.unit (s := S128) (k0_off1 i 108#32) ![1] inb) y = tab x0 i 27 := fun inb y => ld_tab x0 i 27 inb y
  have l28 : ∀ inb y, View.ld x0 (Rect.unit (s := S128) (k0_off1 i 112#32) ![1] inb) y = tab x0 i 28 := fun inb y => ld_tab x0 i 28 inb y
  have l29 : ∀ inb y, View.ld x0 (Rect.unit (s := S128) (k0_off1 i 116#32) ![1] inb) y = tab x0 i 29 := fun inb y => ld_tab x0 i 29 inb y
  have l30 : ∀ inb y, View.ld x0 (Rect.unit (s := S128) (k0_off1 i 120#32) ![1] inb) y = tab x0 i 30 := fun inb y => ld_tab x0 i 30 inb y
  have l31 : ∀ inb y, View.ld x0 (Rect.unit (s := S128) (k0_off1 i 124#32) ![1] inb) y = tab x0 i 31 := fun inb y => ld_tab x0 i 31 inb y
  simp only [l0, l1, l2, l3, l4, l5, l6, l7, l8, l9, l10, l11, l12, l13, l14, l15, l16, l17, l18, l19, l20, l21, l22, l23, l24, l25, l26, l27, l28, l29, l30, l31]
  unfold bwords at hb
  unfold k0_pay8 k0_pay9
  dsimp only
  generalize k0_pay7 (k0_pay3 (Scalar.subi (BitVec.ofNat 32 (i 1).val) 7#32)) (k0_pay4 (Scalar.subi (BitVec.ofNat 32 (i 1).val) 7#32))
    (k0_pay5 (Scalar.subi (BitVec.ofNat 32 (i 1).val) 7#32)) (k0_pay6 (Scalar.subi (BitVec.ofNat 32 (i 1).val) 7#32)) 1#32 0#32 = bk at hb ⊢
  clear l0 l1 l2 l3 l4 l5 l6 l7 l8 l9 l10 l11 l12 l13 l14 l15 l16 l17 l18 l19 l20 l21 l22 l23 l24 l25 l26 l27 l28 l29 l30 l31
  generalize tab x0 i = T
  pointwise [k0_pay1, k0_pay10, k0_pay11, k0_pay12, k0_pay13, k0_pay14, k0_pay15, k0_pay16, k0_pay17, k0_pay18]
  rw [hb]
  fin_cases b <;> rfl

/-- The distance word of a near tile. -/
def relw (v0 : BitVec 32) (r cc : Fin 256) : BitVec 32 := (v0 * 256#32 + BitVec.ofNat 32 cc.val) - BitVec.ofNat 32 r.val

/-- One for a distance of at least `k`. -/
def thr (x k : BitVec 32) : BitVec 32 := Scalar.select (IntOp.cmpi CmpIPredicate.sge (IntOp.absi x) k) 1#32 0#32

/-- The bucket word of a distance word, as the body computes it. -/
def bword (x : BitVec 32) : BitVec 32 :=
  IntOp.addi (Scalar.select (IntOp.cmpi CmpIPredicate.sgt x 0#32) 16#32 0#32)
    (Scalar.select (IntOp.cmpi CmpIPredicate.slt (IntOp.absi x) 8#32) (IntOp.absi x)
      (IntOp.addi (IntOp.addi (IntOp.addi (IntOp.addi (IntOp.addi (IntOp.addi (IntOp.addi 8#32 (thr x 12#32)) (thr x 16#32)) (thr x 23#32))
        (thr x 32#32)) (thr x 46#32)) (thr x 64#32)) (thr x 91#32)))

theorem bwords_apply (v0 : BitVec 32) (r cc : Fin 256) : bwords v0 (ix2 r cc) = bword (relw v0 r cc) := by
  unfold bwords
  pointwise [k0_pay3, k0_pay4, k0_pay5, k0_pay6, k0_pay7]
  rfl

theorem bword_eq : ∀ k : Fin 1023, bword (BitVec.ofInt 32 ((k.val : ℤ) - 511)) = BitVec.ofNat 32 (Bucket.bucket ((k.val : ℤ) - 511)) := by
  decide +kernel

theorem near_iff : ∀ s : Fin 15, (Scalar.cmpi .ne (Scalar.extui (Scalar.cmpi .sle (Scalar.absi (Scalar.subi (BitVec.ofNat 32 s.val) 7#32)) 1#32) : BitVec 32) 0#32 = 1#1) ↔ (6 ≤ s.val ∧ s.val ≤ 8) := by
  decide +kernel

theorem relw_eq (s : Fin 15) (r cc : Fin 256) :
    relw (Scalar.subi (BitVec.ofNat 32 s.val) 7#32) r cc = BitVec.ofInt 32 (((s.val : ℤ) - 7) * 256 + cc.val - r.val) := by
  have h7 : ∀ s : Fin 15, (Scalar.subi (BitVec.ofNat 32 s.val) 7#32) = BitVec.ofInt 32 ((s.val : ℤ) - 7) := by decide +kernel
  unfold relw
  rw [h7]
  apply BitVec.eq_of_toInt_eq
  simp only [BitVec.toInt_sub, BitVec.toInt_add, BitVec.toInt_mul, BitVec.toInt_ofInt, BitVec.toInt_ofNat']
  simp

/-- A step's tile holds, at row `r` and column `cc`, the bias of the bucket of the distance `256 · (s − 7) + cc − r`. -/
theorem outB_apply (c : Dev nD) (i : grid0.Coords) (arg2 : Memref sig .tc .smem S128 .f32) (harg2 : arg2.IsWhole) (arg3 : Memref sig .tc .vmem S1x1x256x256 .f32) (harg3 : arg3.IsWhole) (h0 : cond0_0 i) (h1 : ¬cond0_1 i) (x0 : Vec Ideal S128 .f32) (r cc : Fin 256) :
    out0_B_1 c i arg2 harg2 arg3 harg3 h0 h1 x0 (ix4 0 0 r cc)
      = tab x0 i ⟨Bucket.bucket ((((i 1).val : ℤ) - 7) * 256 + cc.val - r.val), Bucket.bucket_lt _⟩ := by
  apply outB_open
  have hn := (near_iff (i 1)).mp h0
  rw [bwords_apply, relw_eq (i 1)]
  have := bword_eq ⟨((((i 1).val : ℤ) - 7) * 256 + cc.val - r.val + 511).toNat, by omega⟩
  have e : (((((((i 1).val : ℤ) - 7) * 256 + cc.val - r.val + 511).toNat : ℕ) : ℤ) - 511) = (((i 1).val : ℤ) - 7) * 256 + cc.val - r.val := by omega
  simp only [e] at this
  exact this

theorem outA_apply' (c : Dev nD) (i : grid0.Coords) (arg2 : Memref sig .tc .smem S128 .f32) (harg2 : arg2.IsWhole) (arg3 : Memref sig .tc .vmem S1x1x256x256 .f32) (harg3 : arg3.IsWhole) (h0 : ¬cond0_0 i) (h1 : cond0_1 i) (x0 : Vec Ideal S128 .f32) (r cc : Fin 256) :
    out0_A_1 c i arg2 harg2 arg3 harg3 h0 h1 x0 (ix4 0 0 r cc)
      = tab x0 i ⟨Bucket.bucket ((((i 1).val : ℤ) - 7) * 256 + cc.val - r.val), Bucket.bucket_lt _⟩ := by
  rw [outA_apply]
  have hn : ¬(6 ≤ (i 1).val ∧ (i 1).val ≤ 8) := fun h => h0 ((near_iff (i 1)).mpr h)
  split
  · congr 1; apply Fin.ext; symm; exact Bucket.bucket_far_pos _ (by omega)
  · congr 1; apply Fin.ext; symm; exact Bucket.bucket_far_neg _ (by omega)

end Cert.KernelIdeal.DiffRun
-- ==== Proof.T5Arr.lean ====
/- What the array of bias tiles holds after its launch, and the result of the whole program in terms of its arguments. -/
module

public import proofs.«01_k».proof.Proof.DiffArr
public import proofs.«01_k».proof.Proof.T5Tile

@[expose] public section

set_option maxRecDepth 16384

noncomputable section

namespace Cert.KernelIdeal.DiffRun

open Cert.KernelIdeal.Gen
open Idealize.ShloMosaic Idealize.ShloMosaic.TcCoe Idealize.ShloMosaic.Tactic
open Idealize.SL Idealize.SL.RA Idealize.SL.BI Idealize.SL.Sem

theorem ix0_0 : ∀ t : Fin cfg0.N, win0_0.index t = ![0] := (by decide +kernel : ∀ t : Fin grid0.N, win0_0.index t = ![0])
theorem ix0_1 : ∀ t : Fin cfg0.N, win0_1.index t = ![(grid0.coords t 0).val, (grid0.coords t 1).val, 0, 0] :=
  (by decide +kernel : ∀ t : Fin grid0.N, win0_1.index t = ![(grid0.coords t 0).val, (grid0.coords t 1).val, 0, 0])

/-- The bias of the pair of a query `r` and a key `cc` of two blocks `s − 7` apart, from the flat table. -/
def tileArr (A : S128.Idx → EReal) : S4x15x256x256.Idx → EReal :=
  fun i => A (ix1 ⟨4 * Bucket.bucket (((i 1).val - 7 : ℤ) * 256 + (i 3).val - (i 2).val) + (i 0).val, by
    have h := Bucket.bucket_lt (((i 1).val - 7 : ℤ) * 256 + (i 3).val - (i 2).val)
    have h0 : (i 0).val < 4 := (i 0).isLt
    omega⟩)

variable (V : (c : Dev nD) → (b : Ref sig .tc) → Buf (Elt Ideal) ((c : Thread nD τ).loc b))

theorem blk0_0 (c : Dev nD) (t : Fin cfg0.N) (k : Fin 128) : (iblk0 V c 0 t : Vec Ideal S128 .f32) (ix1 k) = (V c main_v0 : S128.Idx → EReal) (ix1 k) := by
  blk_ext [iblk0, ix0_0]

theorem emb0_1 (t : Fin cfg0.N) (r cc : Fin 256) (h : Fin 4) (s : Fin 15) (hh : h.val = (grid0.coords t 0).val) (hs : s.val = (grid0.coords t 1).val) :
    (win0_1.blk t).view.emb (ix4 0 0 r cc) = ix4 h s r cc := by
  blk_ext [ix0_1]

theorem outsAt0_apply (c : Dev nD) (t : Fin cfg0.N) (r cc : Fin 256) (k : Fin 128)
    (hk : k.val = 4 * Bucket.bucket ((((grid0.coords t) 1).val - 7 : ℤ) * 256 + cc.val - r.val) + ((grid0.coords t) 0).val) :
    (outsAt0 V c t.val t.isLt : Vec Ideal S1x1x256x256 .f32) (ix4 0 0 r cc) = (V c main_v0 : S128.Idx → EReal) (ix1 k) := by
  rw [← blk0_0 V c t]
  by_cases h : 6 ≤ t.val % 15 ∧ t.val % 15 ≤ 8
  · rw [outsAt0_B V c t h (fun h' => h' h)]
    refine (outB_apply c _ _ _ _ _ _ _ _ r cc).trans ?_
    exact congrArg (fun k => (iblk0 V c 0 t : Vec Ideal S128 .f32) (ix1 k)) (Fin.ext hk.symm)
  · rw [outsAt0_A V c t h h]
    refine (outA_apply' c _ _ _ _ _ _ _ _ r cc).trans ?_
    exact congrArg (fun k => (iblk0 V c 0 t : Vec Ideal S128 .f32) (ix1 k)) (Fin.ext hk.symm)

theorem arr0_1 (c : Dev nD) : (dat0 V c).arrAt 1 cfg0.N = tileArr (V c main_v0) := by
  refine (dat0 V c).arrAt_eq_of_covers 1 _ (by decide +kernel) fun t hf y => ?_
  blk_simp
  rw [after0_1]
  obtain ⟨r, e, rfl⟩ : ∃ (r : Fin 256) (e : Fin 256), y = ix4 0 0 r e :=
    ⟨y 2, y 3, (eq_ix4 (y : S1x1x256x256.Idx)).trans (congrArg₂ (fun z w => ix4 z w (y 2) (y 3)) (Subsingleton.elim (α := Fin 1) _ _) (Subsingleton.elim (α := Fin 1) _ _))⟩
  have h0 : (grid0.coords t 0).val < 4 := (grid0.coords t 0).isLt
  have h1 : (grid0.coords t 1).val < 15 := (grid0.coords t 1).isLt
  have hb := Bucket.bucket_lt ((((grid0.coords t) 1).val - 7 : ℤ) * 256 + e.val - r.val)
  refine (outsAt0_apply V c t r e ⟨4 * Bucket.bucket ((((grid0.coords t) 1).val - 7 : ℤ) * 256 + e.val - r.val) + ((grid0.coords t) 0).val, by omega⟩ rfl).trans ?_
  refine Eq.trans ?_ (congrArg _ (emb0_1 t r e ⟨_, h0⟩ ⟨_, h1⟩ rfl rfl)).symm
  rfl

/-- The bias of a query and a key for a head: the table's entry of their distance's bucket. -/
def bias (T : S32x4.Idx → EReal) (h : Fin 4) (q n : Fin 2048) : EReal :=
  T (ix2 ⟨Bucket.bucket ((n.val : ℤ) - q.val), Bucket.bucket_lt _⟩ h)

/-- The tiles read at the place of a query and a key hold their bias. -/
theorem tileArr_apply (T : S32x4.Idx → EReal) (A : S128.Idx → EReal) (hA : ∀ (k : Fin 32) (h : Fin 4) (p : Fin 128), p.val = 4 * k.val + h.val → A (ix1 p) = T (ix2 k h))
    (h : Fin 4) (q n : Fin 2048) (s : Fin 15) (r cc : Fin 256)
    (hs : (s.val : ℤ) = 7 - q.val / 256 + n.val / 256) (hr : r.val = q.val % 256) (hc : cc.val = n.val % 256) :
    tileArr A (ix4 h s r cc) = bias T h q n := by
  have e : ((s.val - 7 : ℤ) * 256 + cc.val - r.val) = (n.val : ℤ) - q.val := by omega
  refine hA _ h _ ?_
  show 4 * Bucket.bucket ((s.val - 7 : ℤ) * 256 + cc.val - r.val) + h.val = 4 * Bucket.bucket ((n.val : ℤ) - q.val) + h.val
  rw [e]

end Cert.KernelIdeal.DiffRun
-- ==== Proof.BucketReal.lean ====
/- The reference's bucket of a distance, taken through the exact logarithm, is the bucket of `Bucket`. -/
module

public import Idealize.ShloMosaic.PureOps
public import Idealize.ShloMosaic.Lib.IdealHost
public import Idealize.ShloMosaic.Lib.Pointwise
public import Mathlib.Analysis.SpecialFunctions.Log.Basic
public import proofs.«01_k».proof.Proof.Bucket

@[expose] public section

set_option maxRecDepth 16384

noncomputable section

namespace Bucket

open Idealize.ShloMosaic

theorem thr_iff (k n : ℕ) (hn : 8 ≤ n) : (k : ℝ) ≤ Real.log ((n : ℝ) / 8) / Real.log 16 * 8 ↔ 64 * 2 ^ k ≤ n * n := by
  have h2 : (0 : ℝ) < Real.log 2 := Real.log_pos (by norm_num)
  have h16 : Real.log 16 = 4 * Real.log 2 := by
    rw [show (16 : ℝ) = 2 ^ 4 by norm_num, Real.log_pow]; norm_num
  have hn0 : (0 : ℝ) < (n : ℝ) / 8 := by positivity
  have e : Real.log ((n : ℝ) / 8) / Real.log 16 * 8 = Real.log (((n : ℝ) / 8) ^ 2) / Real.log 2 := by
    rw [h16, Real.log_pow]; field_simp; push_cast; ring
  rw [e, le_div_iff₀ h2, show (k : ℝ) * Real.log 2 = Real.log (2 ^ k) by rw [Real.log_pow], Real.log_le_log_iff (by positivity) (by positivity)]
  rw [div_pow, le_div_iff₀ (by norm_num)]
  constructor
  · intro h; have : ((64 * 2 ^ k : ℕ) : ℝ) ≤ ((n * n : ℕ) : ℝ) := by push_cast; nlinarith
    exact_mod_cast this
  · intro h; have : ((64 * 2 ^ k : ℕ) : ℝ) ≤ ((n * n : ℕ) : ℝ) := by exact_mod_cast h
    push_cast at this; nlinarith

/-- The integer part of the scaled logarithm. -/
def steps (n : ℕ) : ℕ := ⌊Real.log ((n : ℝ) / 8) / Real.log 16 * 8⌋₊

theorem scaled_nonneg (n : ℕ) (hn : 8 ≤ n) : 0 ≤ Real.log ((n : ℝ) / 8) / Real.log 16 * 8 := by
  have := (thr_iff 0 n hn).mpr (by nlinarith)
  simpa using this

theorem le_steps (k n : ℕ) (hn : 8 ≤ n) : k ≤ steps n ↔ 64 * 2 ^ k ≤ n * n :=
  (Nat.le_floor_iff (scaled_nonneg n hn)).trans (thr_iff k n hn)

theorem steps_lt (n : ℕ) (hn : 8 ≤ n) (h : n < 2048) : steps n < 17 := by
  by_contra hc
  have := (le_steps 17 n hn).mp (by omega)
  have : n * n ≤ 2047 * 2047 := Nat.mul_le_mul (by omega) (by omega)
  norm_num at *
  omega

theorem sq_iff (n t m : ℕ) (h1 : (t - 1) * (t - 1) < m) (h2 : m ≤ t * t) (ht : 1 ≤ t) : m ≤ n * n ↔ t ≤ n := by
  constructor
  · intro h
    by_contra hc
    have : n * n ≤ (t - 1) * (t - 1) := Nat.mul_le_mul (by omega) (by omega)
    omega
  · intro h
    exact h2.trans (Nat.mul_le_mul h h)

theorem large_eq (n : ℕ) (hn : 8 ≤ n) : large n = min (8 + steps n) 15 := by
  have e1 := (le_steps 1 n hn).trans (sq_iff n 12 _ (by norm_num) (by norm_num) (by norm_num))
  have e2 := (le_steps 2 n hn).trans (sq_iff n 16 _ (by norm_num) (by norm_num) (by norm_num))
  have e3 := (le_steps 3 n hn).trans (sq_iff n 23 _ (by norm_num) (by norm_num) (by norm_num))
  have e4 := (le_steps 4 n hn).trans (sq_iff n 32 _ (by norm_num) (by norm_num) (by norm_num))
  have e5 := (le_steps 5 n hn).trans (sq_iff n 46 _ (by norm_num) (by norm_num) (by norm_num))
  have e6 := (le_steps 6 n hn).trans (sq_iff n 64 _ (by norm_num) (by norm_num) (by norm_num))
  have e7 := (le_steps 7 n hn).trans (sq_iff n 91 _ (by norm_num) (by norm_num) (by norm_num))
  unfold large
  simp only [← e1, ← e2, ← e3, ← e4, ← e5, ← e6, ← e7]
  split_ifs <;> omega

/-- The scaled logarithm of a distance of at least 8, as the reference's operations give it. -/
def scaled (n : ℕ) : EReal :=
  Ideal.div (Ideal.log (Ideal.div (((n : ℤ) : ℝ) : EReal) (Ideal.ofBits .f32 0x41000000#32))) (Ideal.log (Ideal.ofBits .f32 0x41800000#32))
    * Ideal.ofBits .f32 0x41000000#32

theorem ofBits_8 : Ideal.ofBits .f32 0x41000000#32 = ((8 : ℝ) : EReal) := by
  simp [Ideal.ofBits, Ideal.ieee, -EReal.coe_mul]; norm_num
theorem ofBits_16 : Ideal.ofBits .f32 0x41800000#32 = ((16 : ℝ) : EReal) := by
  simp [Ideal.ofBits, Ideal.ieee, -EReal.coe_mul]; norm_num

theorem div_coe (x y : ℝ) (h : y ≠ 0) : Ideal.div (x : EReal) (y : EReal) = ((x / y : ℝ) : EReal) := by
  rw [Ideal.div, if_neg (by exact_mod_cast h), ← EReal.coe_inv, ← EReal.coe_mul, div_eq_mul_inv]

theorem scaled_eq (n : ℕ) (hn : 8 ≤ n) : scaled n = ((Real.log ((n : ℝ) / 8) / Real.log 16 * 8 : ℝ) : EReal) := by
  have hp : ¬ ((n : ℝ) / 8 ≤ 0) := by
    have : (0 : ℝ) < (n : ℝ) / 8 := by positivity
    linarith
  unfold scaled
  rw [ofBits_8, ofBits_16, div_coe _ _ (by norm_num), Ideal.log_coe, Ideal.log_coe, Int.cast_natCast, if_neg hp, if_neg (by norm_num),
    div_coe _ _ (Real.log_pos (by norm_num)).ne', ← EReal.coe_mul]

theorem fptosi_scaled (n : ℕ) (hn : 8 ≤ n) (h : n < 2048) : Ideal.fptosi 32 (scaled n) = BitVec.ofNat 32 (steps n) := by
  have h0 := scaled_nonneg n hn
  have hl := steps_lt n hn h
  have hf : ⌊Real.log ((n : ℝ) / 8) / Real.log 16 * 8⌋ = (steps n : ℤ) := (Int.natCast_floor_eq_floor h0).symm
  rw [scaled_eq n hn, Ideal.fptosi, Ideal.toIntClamped_coe, if_pos h0, hf]
  rw [min_eq_right (by norm_num; omega), max_eq_right (by norm_num)]
  exact BitVec.ofInt_natCast _ _

theorem absi_eq : ∀ k : Fin 4095, IntOp.absi (BitVec.ofInt 32 ((k.val : ℤ) - 2047)) = BitVec.ofNat 32 ((k.val : ℤ) - 2047).natAbs := by
  decide +kernel
theorem sgt_eq : ∀ k : Fin 4095, Scalar.select (IntOp.cmpi .sgt (BitVec.ofInt 32 ((k.val : ℤ) - 2047)) 0#32) 16#32 0#32
    = BitVec.ofNat 32 (if 0 < ((k.val : ℤ) - 2047) then 16 else 0) := by
  decide +kernel
theorem max_eq : ∀ k : Fin 2048, (IntOp.maxsi (BitVec.ofNat 32 k.val) 1#32).toInt = ((max k.val 1 : ℕ) : ℤ) := by
  decide +kernel
theorem slt_eq : ∀ k : Fin 2048, IntOp.cmpi .slt (BitVec.ofNat 32 k.val) 8#32 = if k.val < 8 then 1#1 else 0#1 := by
  decide +kernel
theorem min_eq : ∀ j : Fin 17, IntOp.minsi (IntOp.addi 8#32 (BitVec.ofNat 32 j.val)) 15#32 = BitVec.ofNat 32 (min (8 + j.val) 15) := by
  decide +kernel
theorem wrap_eq : ∀ b : Fin 32, Scalar.select (IntOp.cmpi .slt (BitVec.ofNat 32 b.val) 0#32) (IntOp.addi (BitVec.ofNat 32 b.val) 32#32) (BitVec.ofNat 32 b.val)
    = BitVec.ofNat 32 b.val := by
  decide +kernel

/-- The reference's bucket word of a distance word. -/
def word (x : BitVec 32) : BitVec 32 :=
  IntOp.addi (Scalar.select (IntOp.cmpi .sgt x 0#32) 16#32 0#32)
    (Scalar.select (IntOp.cmpi .slt (IntOp.absi x) 8#32) (IntOp.absi x)
      (IntOp.minsi (IntOp.addi 8#32 (Ideal.fptosi 32
        (Ideal.div (Ideal.log (Ideal.div (((IntOp.maxsi (IntOp.absi x) 1#32).toInt : ℝ) : EReal) (Ideal.ofBits .f32 0x41000000#32)))
            (Ideal.log (Ideal.ofBits .f32 0x41800000#32)) * Ideal.ofBits .f32 0x41000000#32))) 15#32))

theorem word_eq (z : ℤ) (h1 : -2048 < z) (h2 : z < 2048) : word (BitVec.ofInt 32 z) = BitVec.ofNat 32 (bucket z) := by
  have e : (((z + 2047).toNat : ℕ) : ℤ) - 2047 = z := by omega
  have ha := absi_eq ⟨(z + 2047).toNat, by omega⟩
  have hs := sgt_eq ⟨(z + 2047).toNat, by omega⟩
  simp only [e] at ha hs
  have hlt : z.natAbs < 2048 := by omega
  have hm := max_eq ⟨z.natAbs, hlt⟩
  have hc := slt_eq ⟨z.natAbs, hlt⟩
  simp only at hm hc
  unfold word
  rw [ha, hs, hm, hc]
  unfold bucket
  by_cases h8 : z.natAbs < 8
  · rw [if_pos h8, if_pos h8]
    show BitVec.ofNat 32 _ + BitVec.ofNat 32 _ = _
    exact (BitVec.ofNat_add _ _).symm
  · rw [if_neg h8, if_neg h8, Nat.max_eq_left (by omega)]
    have := fptosi_scaled z.natAbs (by omega) hlt
    unfold scaled at this
    rw [this, min_eq ⟨steps z.natAbs, steps_lt _ (by omega) hlt⟩, large_eq _ (by omega)]
    show BitVec.ofNat 32 _ + BitVec.ofNat 32 _ = _
    exact (BitVec.ofNat_add _ _).symm

end Bucket
-- ==== Proof.DiffRef.lean ====
/- What the reference's result holds at batch `b`, query `q`, head `h`, lane `e`. -/
module

public import proofs.«01_k».proof.Proof.Gen.ReferenceIdeal.Read
public import proofs.«01_k».proof.Proof.DiffSpec
public import proofs.«01_k».proof.Proof.BucketReal
public import Idealize.ShloMosaic.Lib.Pointwise

@[expose] public section

set_option maxRecDepth 16384

noncomputable section

namespace Cert.ReferenceIdeal.Read

open Cert.ReferenceIdeal.Gen
open Idealize.ShloMosaic Idealize.ShloMosaic.Tactic

/-! ## The bias of a pair -/

theorem rel_apply (q n : Fin 2048) : val_main_v24 (F := Ideal) (ix2 q n) = BitVec.ofInt 32 ((n.val : ℤ) - q.val) := by
  rw [val_main_v24_apply, val_main_v22_apply, val_main_v23_apply, val_main_v20_apply, val_main_v21_apply, val_main_v19_apply, val_main_v19_apply]
  show BitVec.ofNat 32 n.val - BitVec.ofNat 32 q.val = _
  have hq := q.isLt
  have hn := n.isLt
  apply BitVec.eq_of_toInt_eq
  have e : ∀ k : ℕ, k < 2048 → (BitVec.ofNat 32 k).toInt = k := fun k hk => by
    have : (BitVec.ofNat 32 k).toNat = k := by rw [BitVec.toNat_ofNat]; omega
    rw [BitVec.toInt_eq_toNat_of_lt (by rw [this]; omega), this]
  rw [BitVec.toInt_sub, BitVec.toInt_ofInt, e _ hn, e _ hq]

theorem bucket_apply (q n : Fin 2048) : val_main_v49 (F := Ideal) (ix2 q n) = BitVec.ofNat 32 (Bucket.bucket ((n.val : ℤ) - q.val)) := by
  have hq := q.isLt
  have hn := n.isLt
  rw [← Bucket.word_eq _ (by omega) (by omega), ← rel_apply]
  rw [val_main_v49_apply, val_main_v48_apply, val_main_v27_apply, val_main_v26_apply, val_main_v25_apply, val_main_v47_apply, val_main_v46_apply,
    val_main_v45_apply, val_main_v44_apply, val_main_v43_apply, val_main_v42_apply, val_main_v41_apply, val_main_v40_apply, val_main_v39_apply,
    val_main_v38_apply, val_main_v37_apply, val_main_v36_apply, val_main_v35_apply, val_main_v34_apply, val_main_v33_apply, val_main_v32_apply,
    val_main_v31_apply, val_main_v30_apply, val_main_v29_apply, val_main_v28_apply, val_main_call0_v0_apply, val_main_call0_v1_apply]
  rfl

theorem row_apply (q n : Fin 2048) : val_main_v55 (F := Ideal) (ix3 q n 0) = BitVec.ofNat 32 (Bucket.bucket ((n.val : ℤ) - q.val)) := by
  rw [val_main_v55_apply, show idx_main_v55 (ix3 q n 0) = ix2 q n from funext fun a => by fin_cases a <;> rfl]
  rw [val_main_v54_apply, val_main_v51_apply, val_main_v53_apply, val_main_v50_apply, val_main_v52_apply, bucket_apply]
  exact Bucket.wrap_eq ⟨_, Bucket.bucket_lt _⟩

/-- A gather of whole rows of a table of 32, at an in-range row. -/
theorem gather_rows (T : S32x4.Idx → EReal) (I : IVec S2048x2048x1 32) (q n : Fin 2048) (h : Fin 4) (k : Fin 32) (hk : I (ix3 q n 0) = BitVec.ofNat 32 k.val) :
    Host.gather gather_S32x4_S2048x2048x1_S2048x2048x4_2_0_n_n_0_2_14 T I (ix3 q n h) = T (ix2 k h) := by
  unfold Host.gather
  congr 1
  funext a
  refine Fin.ext ?_
  show gather_S32x4_S2048x2048x1_S2048x2048x4_2_0_n_n_0_2_14.start (ix3 q n h) I a + gather_S32x4_S2048x2048x1_S2048x2048x4_2_0_n_n_0_2_14.batchCoord (ix3 q n h) a
      + gather_S32x4_S2048x2048x1_S2048x2048x4_2_0_n_n_0_2_14.offCoord (ix3 q n h) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S32x4_S2048x2048x1_S2048x2048x4_2_0_n_n_0_2_14.startIndexMap from List.mem_singleton.mpr rfl)]
    have hsi : gather_S32x4_S2048x2048x1_S2048x2048x4_2_0_n_n_0_2_14.siIdx (ix3 q n h) ⟨List.idxOf (0 : Fin 2) gather_S32x4_S2048x2048x1_S2048x2048x4_2_0_n_n_0_2_14.startIndexMap,
        List.idxOf_lt_length_iff.2 (List.mem_singleton.mpr rfl)⟩ = ix3 q n 0 := by
      funext b; refine Fin.ext ?_
      match b with
      | ⟨0, _⟩ => rfl
      | ⟨1, _⟩ => rfl
      | ⟨2, _⟩ => rfl
    rw [hsi, hk]
    have := (by decide +kernel : ∀ k : Fin 32, min (BitVec.ofNat 32 k.val).toInt.toNat (32 - 1) = k.val) k
    exact this
  · rw [GatherDims.batchCoord_eq_zero _ _ _ List.not_mem_nil]
    unfold GatherDims.start
    rw [dif_neg (show ¬(1 : Fin 2) ∈ gather_S32x4_S2048x2048x1_S2048x2048x4_2_0_n_n_0_2_14.startIndexMap by decide)]
    unfold GatherDims.offCoord
    rw [dif_pos (show (1 : Fin 2) ∈ gather_S32x4_S2048x2048x1_S2048x2048x4_2_0_n_n_0_2_14.sKept by decide)]
    simp only [Nat.zero_add]
    rfl

/-- The bias of a query and a key for a head. -/
def bias (T : S32x4.Idx → EReal) (h : Fin 4) (q n : Fin 2048) : EReal :=
  T (ix2 ⟨Bucket.bucket ((n.val : ℤ) - q.val), Bucket.bucket_lt _⟩ h)

theorem bias_apply (T : S32x4.Idx → EReal) (h : Fin 4) (q n : Fin 2048) : val_main_v57 (F := Ideal) T (ix3 h q n) = bias T h q n := by
  rw [val_main_v57_apply, show idx_main_v57 (ix3 h q n) = ix3 q n h from funext fun a => by fin_cases a <;> rfl]
  exact gather_rows T _ q n h ⟨_, Bucket.bucket_lt _⟩ (row_apply q n)

/-! ## The scores -/

theorem i2 (b : Fin 8) (q : Fin 2048) (h : Fin 4) (m : Fin 2) (d : Fin 64) (l : Fin 512) (hl : l.val = 128 * h.val + 64 * m.val + d.val) :
    idx_main_v2 (ix5 b q h m d) = ix3 b q l := by
  have := b.isLt; have := q.isLt; have := h.isLt; have := m.isLt; have := d.isLt
  refine funext fun a => ?_
  fin_cases a <;> refine Fin.ext ?_ <;> dsimp [idx_main_v2, ix5, ix3] <;> omega
theorem i4 (b : Fin 8) (q : Fin 2048) (h : Fin 4) (m : Fin 2) (d : Fin 64) (l : Fin 512) (hl : l.val = 128 * h.val + 64 * m.val + d.val) :
    idx_main_v4 (ix5 b q h m d) = ix3 b q l := by
  have := b.isLt; have := q.isLt; have := h.isLt; have := m.isLt; have := d.isLt
  refine funext fun a => ?_
  fin_cases a <;> refine Fin.ext ?_ <;> dsimp [idx_main_v4, ix5, ix3] <;> omega
theorem i6 (b : Fin 8) (q : Fin 2048) (h : Fin 4) (e : Fin 128) (l : Fin 512) (hl : l.val = 128 * h.val + e.val) :
    idx_main_v6 (ix4 b q h e) = ix3 b q l := by
  have := b.isLt; have := q.isLt; have := h.isLt; have := e.isLt
  refine funext fun a => ?_
  fin_cases a <;> refine Fin.ext ?_ <;> dsimp [idx_main_v6, ix4, ix3] <;> omega

variable (P : S8x2048x3072.Idx → EReal) (T : S32x4.Idx → EReal) (q1 k1 q2 k2 : S1x64.Idx → EReal) (g : S1x128.Idx → EReal)

theorem q_apply (b : Fin 8) (q : Fin 2048) (h : Fin 4) (m : Fin 2) (d : Fin 64) :
    val_main_v2 (F := Ideal) P (ix5 b q h m d) = P (ix3 b q ⟨1536 + 128 * h.val + 64 * m.val + d.val, by omega⟩) := by
  rw [val_main_v2_apply, i2 b q h m d ⟨128 * h.val + 64 * m.val + d.val, by omega⟩ rfl, val_main_v1_apply, val_main_v0_apply]
  refine congrArg P (funext fun a => ?_)
  fin_cases a <;> refine Fin.ext ?_ <;> dsimp [idx_main_v1, ix3] <;> omega
theorem k_apply (b : Fin 8) (q : Fin 2048) (h : Fin 4) (m : Fin 2) (d : Fin 64) :
    val_main_v4 (F := Ideal) P (ix5 b q h m d) = P (ix3 b q ⟨2048 + 128 * h.val + 64 * m.val + d.val, by omega⟩) := by
  rw [val_main_v4_apply, i4 b q h m d ⟨128 * h.val + 64 * m.val + d.val, by omega⟩ rfl, val_main_v3_apply, val_main_v0_apply]
  refine congrArg P (funext fun a => ?_)
  fin_cases a <;> refine Fin.ext ?_ <;> dsimp [idx_main_v3, ix3] <;> omega
theorem v_apply (b : Fin 8) (q : Fin 2048) (h : Fin 4) (e : Fin 128) :
    val_main_v6 (F := Ideal) P (ix4 b q h e) = P (ix3 b q ⟨2560 + 128 * h.val + e.val, by omega⟩) := by
  rw [val_main_v6_apply, i6 b q h e ⟨128 * h.val + e.val, by omega⟩ rfl, val_main_v5_apply, val_main_v0_apply]
  refine congrArg P (funext fun a => ?_)
  fin_cases a <;> refine Fin.ext ?_ <;> dsimp [idx_main_v5, ix3] <;> omega

/-- A score of map `m` of head `h`. -/
def rs (m : Fin 2) (b : Fin 8) (h : Fin 4) (q n : Fin 2048) : EReal :=
  (∑ d : Fin 64, P (ix3 b q ⟨1536 + 128 * h.val + 64 * m.val + d.val, by omega⟩) * P (ix3 b n ⟨2048 + 128 * h.val + 64 * m.val + d.val, by omega⟩))
    * Ideal.ofBits .f32 0x3E000000#32 + bias T h q n

theorem logit_apply (b : Fin 8) (h : Fin 4) (m : Fin 2) (q n : Fin 2048) :
    val_main_v63 (F := Ideal) P T (ix5 b h m q n) = rs P T m b h q n := by
  rw [val_main_v63_apply, val_main_v60_apply, val_main_v58_apply, val_main_v59_apply, val_main_v62_apply, val_main_v61_apply,
    show idx_main_v61 (idx_main_v62 (ix5 b h m q n)) = ix3 h q n from funext fun a => by fin_cases a <;> rfl, bias_apply]
  unfold rs
  refine congrArg (· + bias T h q n) (congrArg (· * Ideal.ofBits .f32 0x3E000000#32) (Finset.sum_congr rfl fun d _ => ?_))
  rw [show lidx_main_v58 (ix5 b h m q n) d = ix5 b q h m d from funext fun a => by fin_cases a <;> rfl,
    show ridx_main_v58 (ix5 b h m q n) d = ix5 b n h m d from funext fun a => by fin_cases a <;> rfl, q_apply, k_apply]

/-! ## The two maps -/

theorem max_apply (b : Fin 8) (h : Fin 4) (m : Fin 2) (q : Fin 2048) :
    val_main_v64 (F := Ideal) P T (ix4 b h m q) = DiffSpec.smax (rs P T m b h q) := by
  unfold val_main_v64
  have hr : (⟨S8x4x2x2048x2048, .f32⟩ : BufTy).shape.Reduces [4] (⟨S8x4x2x2048, .f32⟩ : BufTy).shape := by decide
  rw [Host.reduce_eq_fold_single _ _ _ _ hr]
  unfold DiffSpec.smax
  refine Finset.fold_congr fun n _ => ?_
  refine Eq.trans ?_ (logit_apply P T b h m q n)
  refine congrArg (val_main_v63 (F := Ideal) P T) (funext fun a => ?_)
  fin_cases a <;> rfl

theorem exp_apply (b : Fin 8) (h : Fin 4) (m : Fin 2) (q n : Fin 2048) :
    val_main_v70 (F := Ideal) P T (ix5 b h m q n) = DiffSpec.sexp (rs P T m b h q) n := by
  rw [val_main_v70_apply, val_main_v69_apply, logit_apply, val_main_v68_apply, val_main_v67_apply,
    show idx_main_v67 (idx_main_v68 (ix5 b h m q n)) = ix4 b h m q from funext fun a => by fin_cases a <;> rfl,
    val_main_v66_apply, val_main_v65_apply, max_apply]
  unfold DiffSpec.sexp
  have : FloatOps.maximumf (F := Ideal) (φ := .f32) (Ideal.ofBits .f32 0xFF800000#32) (DiffSpec.smax (rs P T m b h q)) = DiffSpec.smax (rs P T m b h q) :=
    max_eq_right ((Finset.le_fold_max _).mpr (Or.inl le_rfl))
  exact congrArg (fun x => Ideal.exp (rs P T m b h q n - x)) this

theorem soft_apply (b : Fin 8) (h : Fin 4) (m : Fin 2) (q n : Fin 2048) :
    val_main_v74 (F := Ideal) P T (ix5 b h m q n) = Ideal.div (DiffSpec.sexp (rs P T m b h q) n) (DiffSpec.ssum (rs P T m b h q)) := by
  rw [val_main_v74_apply, exp_apply, val_main_v73_apply, val_main_v72_apply,
    show idx_main_v72 (idx_main_v73 (ix5 b h m q n)) = ix4 b h m q from funext fun a => by fin_cases a <;> rfl, val_main_v71_apply]
  have : ∀ k, val_main_v70 (F := Ideal) P T (idx_main_v71 (ix4 b h m q) k) = DiffSpec.sexp (rs P T m b h q) k := fun k => by
    rw [show idx_main_v71 (ix4 b h m q) k = ix5 b h m q k from funext fun a => by fin_cases a <;> rfl, exp_apply]
  simp only [this]
  have z : val_main_cst_16 (F := Ideal) (Shape.Idx.first h_S_) = (0 : EReal) := by
    show Ideal.ofBits .f32 0#32 = 0
    simp [Ideal.ofBits, Ideal.ieee]
  rw [z, zero_add]
  rfl

theorem lam_apply (i : S_.Idx) : val_main_v18 (F := Ideal) q1 k1 q2 k2 i
    = DiffSpec.lam (fun d => q1 (ix2 0 d)) (fun d => k1 (ix2 0 d)) (fun d => q2 (ix2 0 d)) (fun d => k2 (ix2 0 d)) := by
  rw [val_main_v18_apply, val_main_v17_apply, val_main_v16_apply, val_main_v15_apply, val_main_v11_apply, val_main_v10_apply]
  have e : ∀ d : S64.Idx, idx_main_v7 d = ix2 0 (d 0) := fun d => by
    have h0 : (d 0).val < 64 := (d 0).isLt
    refine funext fun a => ?_
    fin_cases a <;> refine Fin.ext ?_ <;> dsimp [idx_main_v7, ix2]
    omega
  have s : ∀ (x y : S1x64.Idx → EReal), ∑ j : S64.Idx, x (idx_main_v7 j) * y (idx_main_v7 j) = ∑ d : Fin 64, x (ix2 0 d) * y (ix2 0 d) := fun x y => by
    simp only [e]
    exact Fintype.sum_equiv (Equiv.ofBijective (fun j : S64.Idx => (j 0 : Fin 64))
      ⟨fun a b h => funext fun i => by obtain rfl : i = 0 := Subsingleton.elim _ _; exact h, fun k => ⟨fun i => ⟨k.val, by obtain rfl : i = 0 := Subsingleton.elim _ _; exact k.isLt⟩, rfl⟩⟩) _ _ fun j => rfl
  have z : (Ideal.ofBits .f32 0#32) = (0 : EReal) := by simp [Ideal.ofBits, Ideal.ieee]
  have z0 : val_main_cst (F := Ideal) (Shape.Idx.first h_S_) = (0 : EReal) := z
  have z1 : val_main_cst_0 (F := Ideal) (Shape.Idx.first h_S_) = (0 : EReal) := z
  rw [z0, z1]
  have a1 : ∑ j : S64.Idx, val_main_v9 (F := Ideal) q1 k1 j = ∑ d : Fin 64, q1 (ix2 0 d) * k1 (ix2 0 d) := by
    rw [← s q1 k1]; refine Finset.sum_congr rfl fun j _ => ?_
    rw [val_main_v9_apply, val_main_v7_apply, val_main_v8_apply]; rfl
  have a2 : ∑ j : S64.Idx, val_main_v14 (F := Ideal) q2 k2 j = ∑ d : Fin 64, q2 (ix2 0 d) * k2 (ix2 0 d) := by
    rw [← s q2 k2]; refine Finset.sum_congr rfl fun j _ => ?_
    rw [val_main_v14_apply, val_main_v12_apply, val_main_v13_apply]; rfl
  rw [a1, a2, zero_add, zero_add]
  rfl

/-- The weight of a key. -/
theorem w_apply (b : Fin 8) (h : Fin 4) (q n : Fin 2048) : val_main_v81 (F := Ideal) P T q1 k1 q2 k2 (ix4 b h q n)
    = DiffSpec.weightR (DiffSpec.lam (fun d => q1 (ix2 0 d)) (fun d => k1 (ix2 0 d)) (fun d => q2 (ix2 0 d)) (fun d => k2 (ix2 0 d)))
        (rs P T 0 b h q) (rs P T 1 b h q) n := by
  have := b.isLt; have := q.isLt; have := h.isLt; have := n.isLt
  rw [val_main_v81_apply, val_main_v80_apply, val_main_v79_apply, lam_apply, val_main_v76_apply, val_main_v75_apply, val_main_v78_apply, val_main_v77_apply]
  rw [show idx_main_v75 (idx_main_v76 (ix4 b h q n)) = ix5 b h 0 q n from by
      refine funext fun a => ?_
      fin_cases a <;> refine Fin.ext ?_ <;> dsimp [idx_main_v75, idx_main_v76, ix5, ix4] <;> omega,
    show idx_main_v77 (idx_main_v78 (ix4 b h q n)) = ix5 b h 1 q n from by
      refine funext fun a => ?_
      fin_cases a <;> refine Fin.ext ?_ <;> dsimp [idx_main_v77, idx_main_v78, ix5, ix4] <;> omega, soft_apply, soft_apply]
  rfl

/-! ## The result -/

theorem o_apply (b : Fin 8) (q : Fin 2048) (h : Fin 4) (e : Fin 128) : val_main_v83 (F := Ideal) P T q1 k1 q2 k2 (ix4 b q h e)
    = DiffSpec.attn (DiffSpec.weightR (DiffSpec.lam (fun d => q1 (ix2 0 d)) (fun d => k1 (ix2 0 d)) (fun d => q2 (ix2 0 d)) (fun d => k2 (ix2 0 d)))
        (rs P T 0 b h q) (rs P T 1 b h q)) (fun n e' => P (ix3 b n ⟨2560 + 128 * h.val + e'.val, by omega⟩)) e := by
  rw [val_main_v83_apply, show idx_main_v83 (ix4 b q h e) = ix4 b h e q from funext fun a => by fin_cases a <;> rfl, val_main_v82_apply]
  unfold DiffSpec.attn
  refine Finset.sum_congr rfl fun n _ => ?_
  rw [show lidx_main_v82 (ix4 b h e q) n = ix4 b n h e from funext fun a => by fin_cases a <;> rfl,
    show ridx_main_v82 (ix4 b h e q) n = ix4 b h q n from funext fun a => by fin_cases a <;> rfl, v_apply, w_apply, mul_comm]

/-- The reference's result at batch `b`, query `q`, head `h`, lane `e`. -/
def rout (b : Fin 8) (q : Fin 2048) (h : Fin 4) (e : Fin 128) : EReal :=
  DiffSpec.normed (DiffSpec.attn (DiffSpec.weightR (DiffSpec.lam (fun d => q1 (ix2 0 d)) (fun d => k1 (ix2 0 d)) (fun d => q2 (ix2 0 d)) (fun d => k2 (ix2 0 d)))
        (rs P T 0 b h q) (rs P T 1 b h q)) (fun n e' => P (ix3 b n ⟨2560 + 128 * h.val + e'.val, by omega⟩))) (fun e' => g (ix2 0 e')) e

theorem out_apply (b : Fin 8) (q : Fin 2048) (h : Fin 4) (e : Fin 128) : val_main_v100 (F := Ideal) P T q1 k1 q2 k2 g (ix4 b q h e)
    = rout P T q1 k1 q2 k2 g b q h e := by
  rw [val_main_v100_apply, val_main_v99_apply, val_main_v98_apply, val_main_v97_apply, val_main_v96_apply, val_main_v95_apply, val_main_v94_apply,
    val_main_v93_apply, val_main_v92_apply, val_main_v91_apply, val_main_v90_apply, val_main_v89_apply, val_main_v88_apply, val_main_v87_apply, val_main_v86_apply,
    show idx_main_v86 (idx_main_v92 (ix4 b q h e)) = ix3 b q h from funext fun a => by fin_cases a <;> rfl, val_main_v85_apply,
    show idx_main_v94 (idx_main_v95 (idx_main_v96 (ix4 b q h e))) = ix2 0 e from by
      have := e.isLt
      refine funext fun a => ?_
      fin_cases a <;> refine Fin.ext ?_ <;> dsimp [idx_main_v94, idx_main_v95, idx_main_v96, ix4, ix2]
      omega]
  have : ∀ k, val_main_v84 (F := Ideal) P T q1 k1 q2 k2 (idx_main_v85 (ix3 b q h) k)
      = val_main_v83 (F := Ideal) P T q1 k1 q2 k2 (ix4 b q h k) * val_main_v83 (F := Ideal) P T q1 k1 q2 k2 (ix4 b q h k) := fun k => by
    rw [show idx_main_v85 (ix3 b q h) k = ix4 b q h k from funext fun a => by fin_cases a <;> rfl, val_main_v84_apply]; rfl
  simp only [this, o_apply]
  have z : val_main_cst_17 (F := Ideal) (Shape.Idx.first h_S_) = (0 : EReal) := by
    show Ideal.ofBits .f32 0#32 = 0
    simp [Ideal.ofBits, Ideal.ieee]
  rw [z, zero_add]
  rfl

/-- The result array as one function of its index. -/
theorem ref_eq (i : S8x2048x512.Idx) : val_main_v101 (F := Ideal) P T q1 k1 q2 k2 g i
    = rout P T q1 k1 q2 k2 g (i 0) (i 1) ⟨(i 2).val / 128, by have h := (i 2).isLt; change (i 2).val < 512 at h; omega⟩ ⟨(i 2).val % 128, Nat.mod_lt _ (by decide)⟩ := by
  refine (val_main_v101_apply ..).trans (Eq.trans ?_ (out_apply P T q1 k1 q2 k2 g ..))
  refine congrArg (val_main_v100 (F := Ideal) P T q1 k1 q2 k2 g) ?_
  have h0 : (i 0).val < 8 := (i 0).isLt
  have h1 : (i 1).val < 2048 := (i 1).isLt
  have h2 : (i 2).val < 512 := (i 2).isLt
  refine funext fun a => ?_
  fin_cases a <;> refine Fin.ext ?_ <;> dsimp [idx_main_v101, ix4] <;> omega

end Cert.ReferenceIdeal.Read
-- ==== Proof.DiffMath.lean ====
/- The two orders of operations agree on finite scores: the masked, pre-scaled product over 128 lanes is the scaled
   product over a map's own 64, and the kernel's row factors give the reference's weights. -/
module

public import proofs.«01_k».proof.Proof.DiffSpec
public import Mathlib.Data.EReal.Inv
public import Mathlib.Tactic.Linarith
public import Mathlib.Tactic.FieldSimp
public import Mathlib.Algebra.BigOperators.Fin

@[expose] public section

noncomputable section

namespace DiffSpec

open Idealize.ShloMosaic

/-- A value that is a real number. -/
def Fin' (x : EReal) : Prop := ∃ r : ℝ, x = r

theorem coe_sum' {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The scale of the scores, an eighth. -/
theorem eighth : Ideal.ofBits .f32 0x3E000000#32 = ((1 / 8 : ℝ) : EReal) := by
  simp [Ideal.ofBits, Ideal.ieee]
  rw [← EReal.coe_mul]
  congr 1
  norm_num
theorem neg_inf : Ideal.ofBits .f32 0xFF800000#32 = (⊥ : EReal) := by
  simp [Ideal.ofBits, Ideal.ieee]

theorem halves (f : Fin 128 → EReal) : ∑ d, f d = (∑ d : Fin 64, f ⟨d.val, by omega⟩) + ∑ d : Fin 64, f ⟨64 + d.val, by omega⟩ :=
  Fin.sum_univ_add (a := 64) (b := 64) f

theorem lo_lanes (x y : Fin 128 → EReal) (hx : ∀ d, Fin' (x d)) (hy : ∀ d, Fin' (y d)) :
    ∑ d : Fin 128, (if d.val < 64 then x d * Ideal.ofBits .f32 0x3E000000#32 else 0) * y d
      = (∑ d : Fin 64, x ⟨d.val, by omega⟩ * y ⟨d.val, by omega⟩) * Ideal.ofBits .f32 0x3E000000#32 := by
  rw [eighth]
  choose x' hx using hx
  choose y' hy using hy
  obtain rfl : x = fun d => (x' d : EReal) := funext hx
  obtain rfl : y = fun d => (y' d : EReal) := funext hy
  rw [halves]
  have a : ∀ d : Fin 64, d.val < 64 := fun d => d.isLt
  have b : ∀ d : Fin 64, ¬(64 + d.val < 64) := fun d => by omega
  simp only [a, b, if_true, if_false, zero_mul, Finset.sum_const_zero, add_zero, ← EReal.coe_mul, ← coe_sum']
  congr 1
  rw [Finset.sum_mul]
  exact Finset.sum_congr rfl fun d _ => by ring

theorem hi_lanes (x y : Fin 128 → EReal) (hx : ∀ d, Fin' (x d)) (hy : ∀ d, Fin' (y d)) :
    ∑ d : Fin 128, (if d.val < 64 then 0 else x d * Ideal.ofBits .f32 0x3E000000#32) * y d
      = (∑ d : Fin 64, x ⟨64 + d.val, by omega⟩ * y ⟨64 + d.val, by omega⟩) * Ideal.ofBits .f32 0x3E000000#32 := by
  rw [eighth]
  choose x' hx using hx
  choose y' hy using hy
  obtain rfl : x = fun d => (x' d : EReal) := funext hx
  obtain rfl : y = fun d => (y' d : EReal) := funext hy
  rw [halves]
  have a : ∀ d : Fin 64, d.val < 64 := fun d => d.isLt
  have b : ∀ d : Fin 64, ¬(64 + d.val < 64) := fun d => by omega
  simp only [a, b, if_true, if_false, zero_mul, Finset.sum_const_zero, zero_add, ← EReal.coe_mul, ← coe_sum']
  congr 1
  rw [Finset.sum_mul]
  exact Finset.sum_congr rfl fun d _ => by ring

/-- A scaled product of finite rows plus a finite bias is finite. -/
theorem score_fin {n : ℕ} (x y : Fin n → EReal) (t : EReal) (hx : ∀ d, Fin' (x d)) (hy : ∀ d, Fin' (y d)) (ht : Fin' t) :
    Fin' ((∑ d, x d * y d) * Ideal.ofBits .f32 0x3E000000#32 + t) := by
  choose x' hx using hx
  choose y' hy using hy
  obtain ⟨t', rfl⟩ := ht
  refine ⟨(∑ d, x' d * y' d) * (1 / 8) + t', ?_⟩
  rw [eighth, EReal.coe_add, EReal.coe_mul, coe_sum']
  simp only [hx, hy, EReal.coe_mul]

theorem smax_fin (s : Fin 2048 → EReal) (hs : ∀ n, Fin' (s n)) : Fin' (smax s) := by
  choose s' hs using hs
  have lo : (s' 0 : EReal) ≤ smax s := (Finset.le_fold_max _).mpr (Or.inr ⟨0, Finset.mem_univ _, (hs 0).ge⟩)
  have hi : smax s < ⊤ := Finset.fold_max_lt _ |>.mpr ⟨by rw [neg_inf]; exact bot_lt_top, fun n _ => by rw [hs]; exact EReal.coe_lt_top _⟩
  exact ⟨(smax s).toReal, (EReal.coe_toReal hi.ne (ne_of_gt (lt_of_lt_of_le (EReal.bot_lt_coe _) lo))).symm⟩

/-- A row of finite scores has a positive sum of exponentials. -/
theorem ssum_ne_zero (s : Fin 2048 → EReal) (hs : ∀ n, Fin' (s n)) : ssum s ≠ 0 := by
  obtain ⟨M, hM⟩ := smax_fin s hs
  choose s' hs using hs
  have e : ssum s = ((∑ n, Real.exp (s' n - M) : ℝ) : EReal) := by
    rw [coe_sum']
    refine Finset.sum_congr rfl fun n _ => ?_
    unfold sexp
    rw [hM, hs, ← EReal.coe_sub, Ideal.exp_coe]
  rw [e]
  have : (0 : ℝ) < ∑ n, Real.exp (s' n - M) := Finset.sum_pos (fun n _ => Real.exp_pos _) ⟨0, Finset.mem_univ _⟩
  exact_mod_cast this.ne'

theorem weight_eq (lam : EReal) (s1 s2 : Fin 2048 → EReal) (h1 : ∀ n, Fin' (s1 n)) (h2 : ∀ n, Fin' (s2 n)) :
    weightK lam s1 s2 = weightR lam s1 s2 := by
  funext n
  unfold weightK weightR Ideal.div
  rw [if_neg (ssum_ne_zero s1 h1), if_neg (ssum_ne_zero s2 h2), if_neg (ssum_ne_zero s1 h1), if_neg (ssum_ne_zero s2 h2), one_mul, mul_left_comm]

end DiffSpec
-- ==== Proof.DiffEq.lean ====
/- The kernel's result array is the reference's, wherever the queries, the keys and the bias table are finite. -/
module

public import proofs.«01_k».proof.Proof.T5Arr
public import proofs.«01_k».proof.Proof.DiffRef
public import proofs.«01_k».proof.Proof.DiffMath

@[expose] public section

set_option maxRecDepth 16384

noncomputable section

namespace Cert.KernelIdeal.DiffRun

open Cert.KernelIdeal.Gen
open Idealize.ShloMosaic Idealize.ShloMosaic.TcCoe Idealize.ShloMosaic.Tactic
open Idealize.SL Idealize.SL.RA Idealize.SL.BI Idealize.SL.Sem
open Cert.ReferenceIdeal.Read (rs rout)

variable (P : S8x2048x3072.Idx → EReal) (T : S32x4.Idx → EReal) (A : S128.Idx → EReal) (q1 k1 q2 k2 : S1x64.Idx → EReal) (g : S1x128.Idx → EReal)
  (hA : ∀ (k : Fin 32) (h : Fin 4) (p : Fin 128), p.val = 4 * k.val + h.val → A (ix1 p) = T (ix2 k h))
  (hP : ∀ (b : Fin 8) (q : Fin 2048) (l : Fin 3072), 1536 ≤ l.val → l.val < 2560 → DiffSpec.Fin' (P (ix3 b q l)))
  (hT : ∀ k h, DiffSpec.Fin' (T (ix2 k h)))

include hA in
theorem tile_bias (h : Fin 4) (q n : Fin 2048) :
    tileArr A (ix4 h ⟨7 - q.val / 256 + n.val / 256, by omega⟩ ⟨q.val % 256, Nat.mod_lt _ (by decide)⟩ ⟨n.val % 256, Nat.mod_lt _ (by decide)⟩)
      = Cert.ReferenceIdeal.Read.bias T h q n :=
  tileArr_apply T A hA h q n _ _ _ (by have := q.isLt; have := n.isLt; dsimp only; omega) rfl rfl

include hA hP in
theorem ks1_eq (b : Fin 8) (h : Fin 4) (q n : Fin 2048) : ks1 P (tileArr A) b h q n = rs P T 0 b h q n := by
  unfold ks1 rs
  rw [tile_bias T A hA]
  refine congrArg (· + Cert.ReferenceIdeal.Read.bias T h q n) ?_
  refine (DiffSpec.lo_lanes (fun d => P (ix3 b q ⟨1536 + 128 * h.val + d.val, by omega⟩)) (fun d => P (ix3 b n ⟨2048 + 128 * h.val + d.val, by omega⟩))
    (fun d => hP _ _ _ (by dsimp only; omega) (by dsimp only; omega)) (fun d => hP _ _ _ (by dsimp only; omega) (by dsimp only; omega))).trans ?_
  refine congrArg (· * Ideal.ofBits .f32 0x3E000000#32) (Finset.sum_congr rfl fun d _ => ?_)
  refine congrArg₂ (· * ·) (congrArg (fun l => P (ix3 b q l)) (Fin.ext ?_)) (congrArg (fun l => P (ix3 b n l)) (Fin.ext ?_)) <;> dsimp only <;> simp

include hA hP in
theorem ks2_eq (b : Fin 8) (h : Fin 4) (q n : Fin 2048) : ks2 P (tileArr A) b h q n = rs P T 1 b h q n := by
  unfold ks2 rs
  rw [tile_bias T A hA]
  refine congrArg (· + Cert.ReferenceIdeal.Read.bias T h q n) ?_
  refine (DiffSpec.hi_lanes (fun d => P (ix3 b q ⟨1536 + 128 * h.val + d.val, by omega⟩)) (fun d => P (ix3 b n ⟨2048 + 128 * h.val + d.val, by omega⟩))
    (fun d => hP _ _ _ (by dsimp only; omega) (by dsimp only; omega)) (fun d => hP _ _ _ (by dsimp only; omega) (by dsimp only; omega))).trans ?_
  refine congrArg (· * Ideal.ofBits .f32 0x3E000000#32) (Finset.sum_congr rfl fun d _ => ?_)
  refine congrArg₂ (· * ·) (congrArg (fun l => P (ix3 b q l)) (Fin.ext ?_)) (congrArg (fun l => P (ix3 b n l)) (Fin.ext ?_)) <;> dsimp only <;> simp <;> omega

include hP hT in
theorem rs_fin (m : Fin 2) (b : Fin 8) (h : Fin 4) (q n : Fin 2048) : DiffSpec.Fin' (rs P T m b h q n) :=
  DiffSpec.score_fin (fun d : Fin 64 => P (ix3 b q ⟨1536 + 128 * h.val + 64 * m.val + d.val, by omega⟩))
    (fun d => P (ix3 b n ⟨2048 + 128 * h.val + 64 * m.val + d.val, by omega⟩)) _
    (fun d => hP _ _ _ (by dsimp only; omega) (by dsimp only; omega)) (fun d => hP _ _ _ (by dsimp only; omega) (by dsimp only; omega)) (hT _ _)

include hA hP hT in
/-- The equation of the two result arrays. -/
theorem result_eq : koutArr P (tileArr A) q1 k1 q2 k2 g = Cert.ReferenceIdeal.Read.val_main_v101 (F := Ideal) P T q1 k1 q2 k2 g := by
  funext i
  refine Eq.trans ?_ (Cert.ReferenceIdeal.Read.ref_eq P T q1 k1 q2 k2 g i).symm
  unfold koutArr
  generalize (i 0 : Fin 8) = b
  generalize (i 1 : Fin 2048) = q
  unfold kout rout
  rw [show ks1 P (tileArr A) b _ q = _ from funext (ks1_eq P T A hA hP b _ q), show ks2 P (tileArr A) b _ q = _ from funext (ks2_eq P T A hA hP b _ q),
    DiffSpec.weight_eq _ _ _ (rs_fin P T hP hT 0 b _ q) (rs_fin P T hP hT 1 b _ q)]

variable (m : (ℓ : Loc nD τ sig) → Buf (Elt Ideal) ℓ) (ρ : Dev nD → PrngReg)

/-- The flat table is the bias table, row by row. -/
theorem flat_table (c : Dev nD) (k : Fin 32) (h : Fin 4) (p : Fin 128) (hp : p.val = 4 * k.val + h.val) :
    (V1 m ρ c main_v0 : S128.Idx → EReal) (ix1 p) = (m ((c.tc : Thread nD τ).loc main_arg1) : S32x4.Idx → EReal) (ix2 k h) := by
  have e : (V1 m ρ c main_v0 : S128.Idx → EReal) = shapeCast (s := S32x4) S128 (m ((c.tc : Thread nD τ).loc main_arg1) : S32x4.Idx → EReal) shapeCasts_S32x4_S128 := rfl
  rw [e]
  refine shapeCast_apply _ _ _ _ ?_
  rw [Shape.rowMajor_val_two, Shape.rowMajor_val_one]
  have := k.isLt
  have := h.isLt
  show k.val * 4 + h.val = p.val
  omega

/-- What the program leaves in its result buffer. -/
theorem W3_v2 (c : Dev nD) : (W3 m ρ c (Proc.devRef .tc main_v2) : S8x2048x512.Idx → EReal)
    = koutArr (m ((c.tc : Thread nD τ).loc main_arg0)) (tileArr (V1 m ρ c main_v0)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) := by
  refine (W3_arr m ρ c 9).trans ((arr1_9 (V2 m ρ) c).trans ?_)
  have a : ∀ r ∈ argRefs, V2 m ρ c r = m ((c.tc : Thread nD τ).loc r) := W2_args m ρ c
  have b : V2 m ρ c main_v1 = tileArr (V1 m ρ c main_v0) := (W2_arr m ρ c 1).trans (arr0_1 (V1 m ρ) c)
  rw [b, a main_arg0 (by decide), a main_arg2 (by decide), a main_arg3 (by decide), a main_arg4 (by decide), a main_arg5 (by decide), a main_arg6 (by decide)]

end Cert.KernelIdeal.DiffRun
-- ==== Proof.Pre.lean ====
/- The precondition read at an element: a query, a key or a bias entry whose absolute value lies below infinity is a
   real number. -/
module

public import proofs.«01_k».proof.Defs
public import proofs.«01_k».proof.Proof.DiffMath
public import Idealize.ShloMosaic.Lib.Pointwise

@[expose] public section

noncomputable section

namespace Cert.Pre_finite_scores

open Idealize.ShloMosaic Idealize.ShloMosaic.Tactic

theorem facts : Facts where
  slices_S8x2048x3072_S8x2048x1024_0_0_1536 := by decide
  bitsLt_bf16_f32 := by decide
  bcast_S_S8x2048x1024 := by decide
  bcast_S_S32x4 := by decide

theorem fin_of_lt (x : EReal) (h : Ideal.cmp .olt (max x (-x)) (Ideal.ofBits .f32 0x7F800000#32) = 1#1) : DiffSpec.Fin' x := by
  have e : Ideal.ofBits .f32 0x7F800000#32 = (⊤ : EReal) := by simp [Ideal.ofBits, Ideal.ieee]
  rw [e] at h
  induction x using EReal.rec with
  | bot => exact absurd h (by simp [Ideal.cmp])
  | coe r => exact ⟨r, rfl⟩
  | top => exact absurd h (by simp [Ideal.cmp])

variable [Facts] (P : FVec Ideal S8x2048x3072 .bf16) (T : FVec Ideal S32x4 .f32) (a b c d : FVec Ideal S1x64 .f32) (g : FVec Ideal S1x128 .f32)

theorem qk_fin (h : (fn P T a b c d g).1 = fun _ => 1#1) (x : Fin 8) (q : Fin 2048) (l : Fin 3072) (h1 : 1536 ≤ l.val) (h2 : l.val < 2560) :
    DiffSpec.Fin' (P (ix3 x q l)) := by
  have e := congrFun h (ix3 x q (⟨l.val - 1536, by omega⟩ : Fin 1024))
  have i : (ix3 x q l : S8x2048x3072.Idx) = fun k => ⟨(![0, 0, 1536] : Fin 3 → ℕ) k + (ix3 x q (⟨l.val - 1536, by omega⟩ : Fin 1024) k).val, by
      have := x.isLt; have := q.isLt
      fin_cases k <;> dsimp [ix3] <;> omega⟩ := by
    funext k; refine Fin.ext ?_
    fin_cases k <;> dsimp [ix3] <;> omega
  rw [i]
  exact fin_of_lt _ e

theorem bias_fin (h : (fn P T a b c d g).2 = fun _ => 1#1) (k : Fin 32) (n : Fin 4) : DiffSpec.Fin' (T (ix2 k n)) :=
  fin_of_lt _ (congrFun h (ix2 k n))

end Cert.Pre_finite_scores
-- ==== Proof.FrameKernel.lean ====
/- The frame of the compiled program: the program and its ideal reading have one text, so the run of Proof/DiffRun.lean,
   read at the machine's float words, is the program's own. -/
module

public import proofs.«01_k».proof.Defs
public import proofs.«01_k».proof.Proof.Gen.Kernel
public import proofs.«01_k».proof.Proof.DiffRun

@[expose] public section

noncomputable section

namespace Cert.KernelIdeal.DiffRun

open Idealize.ShloMosaic Idealize.SL.Sem

variable {F : FTy → Type} [FloatOps F]

/-- The run without its result. -/
theorem run_frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨h.1, h.2.1⟩) (run_main m ρ)

end Cert.KernelIdeal.DiffRun

namespace Cert.Proof

open Idealize.ShloMosaic Idealize.SL.Sem

/-- The two body tables are one, a label at a time. -/
theorem bodies_eq : Cert.Kernel.defs₀ (F := Bits) = Cert.KernelIdeal.defs₀ (F := Bits) := by
  unfold Cert.Kernel.defs₀ Cert.KernelIdeal.defs₀
  refine congrArg Defs.onTc (funext fun p => funext fun a => ?_)
  match p, a with
  | 0, (t, s) =>
    show Cert.Kernel.cc0_t5_bias (F := Bits) _ _ _ _ _ = Cert.KernelIdeal.cc0_t5_bias (F := Bits) _ _ _ _ _
    rfl
  | 1, (t, s) =>
    show Cert.Kernel.cc1_diff (F := Bits) _ _ _ _ _ _ _ _ _ _ _ _ _ _ _ _ _ _ _ _ _
      = Cert.KernelIdeal.cc1_diff (F := Bits) _ _ _ _ _ _ _ _ _ _ _ _ _ _ _ _ _ _ _ _ _
    rfl

theorem defs_eq : Cert.Kernel.defs (F := Bits) = Cert.KernelIdeal.defs (F := Bits) :=
  congrArg (Pipeline.defs (Cert.KernelIdeal.pcfgs (F := Bits))) bodies_eq

theorem frame_kernel : Cert.quiescent_Kernel := by
  intro m ρ _
  rw [defs_eq]
  exact Cert.KernelIdeal.DiffRun.run_frame (F := Bits) m ρ

end Cert.Proof

end
-- ==== Proof.MidSpec.lean ====
/- The row mathematics around a layer's residual stream: the residual sum, the layer norm of a row, its gain and bias, its
   modulation, and the products read from it. Rows are functions of a lane; nothing here knows how a kernel tiles them. -/
module

public import Idealize.ShloMosaic.PureOps.Ideal

@[expose] public section

noncomputable section

namespace Cert.MidSpec

open Idealize.ShloMosaic

/-- The mean of a row of 1024 lanes: the sum over the float word of 1024. -/
def mean (y : Fin 1024 → EReal) : EReal := Ideal.div (∑ j : Fin 1024, y j) (Ideal.ofBits .f32 0x44800000#32)

/-- The layer norm of a row without gain: lanes less the mean, times the reciprocal root of the variance plus epsilon. -/
def norm (y : Fin 1024 → EReal) (j : Fin 1024) : EReal :=
  (y j - mean y) * Ideal.rsqrt (mean (fun k => (y k - mean y) * (y k - mean y)) + Ideal.ofBits .f32 0x3727C5AC#32)

/-- A row times a gain plus a bias. -/
def affine (y g b : Fin 1024 → EReal) (j : Fin 1024) : EReal := y j * g j + b j

/-- A row times one plus a scale, plus a shift. -/
def modulate (y sc sh : Fin 1024 → EReal) (j : Fin 1024) : EReal := y j * (1 + sc j) + sh j

/-- Two rows of 512 lanes, side by side, times a matrix of 1024 rows: the first row meets the upper half of the matrix,
    the second the lower half. -/
def mix (a b : Fin 512 → EReal) (w : Fin 1024 → Fin 1024 → EReal) (j : Fin 1024) : EReal :=
  (∑ k : Fin 512, a k * w ⟨k.val, by omega⟩ j) + ∑ k : Fin 512, b k * w ⟨512 + k.val, by omega⟩ j

/-- A row times a matrix with `n` columns. -/
def rowMul {n : ℕ} (y : Fin 1024 → EReal) (w : Fin 1024 → Fin n → EReal) (j : Fin n) : EReal := ∑ k : Fin 1024, y k * w k j

/-- The scaled residual plus the gated mix. -/
def resid (x gate y : Fin 1024 → EReal) (j : Fin 1024) : EReal :=
  Ideal.ofBits .f32 0x3F9837F0#32 * x j + (1 + gate j) * y j

/-- The residual stream after the attention half: the normed sum with its gain and bias. -/
def x1 (a b : Fin 512 → EReal) (w : Fin 1024 → Fin 1024 → EReal) (x gate g bias : Fin 1024 → EReal) : Fin 1024 → EReal :=
  affine (norm (resid x gate (mix a b w))) g bias

/-- One head half's scores of all 128 sub-keys: the key rows times the queries' 128 lanes. -/
def score (q : Fin 2048 → EReal) (sk : Fin 128 → Fin 128 → EReal) (hp : Fin 16) (n : Fin 128) : EReal :=
  ∑ k : Fin 128, sk n k * q ⟨128 * hp.val + k.val, by omega⟩

/-- The batch of a flat token. -/
def bOf (R : Fin 16384) : Fin 8 := ⟨R.val / 2048, by omega⟩
/-- The position of a flat token in its sequence. -/
def qOf (R : Fin 16384) : Fin 2048 := ⟨R.val % 2048, Nat.mod_lt _ (by decide)⟩
/-- Lane `j` of the modulation's part `p` (of six). -/
def part (p : Fin 6) (j : Fin 1024) : Fin 6144 := ⟨1024 * p.val + j.val, by omega⟩

/-- The new residual stream of flat token `R`: from the two attentions' outputs, the stream, the modulation's gate, the
    output projection and the first norm's gain and bias. -/
def x1At (na df : Fin 8 → Fin 2048 → Fin 512 → EReal) (x : Fin 8 → Fin 2048 → Fin 1024 → EReal) (md : Fin 8 → Fin 6144 → EReal)
    (wo : Fin 1024 → Fin 1024 → EReal) (g b : Fin 1024 → EReal) (R : Fin 16384) : Fin 1024 → EReal :=
  x1 (na (bOf R) (qOf R)) (df (bOf R) (qOf R)) wo (x (bOf R) (qOf R)) (fun j => md (bOf R) (part 2 j)) g b

/-- The modulated norm of a row `y` of flat token `R`: scale from part 4, shift from part 3. -/
def h2At (y : Fin 1024 → EReal) (md : Fin 8 → Fin 6144 → EReal) (R : Fin 16384) : Fin 1024 → EReal :=
  modulate (norm y) (fun j => md (bOf R) (part 4 j)) (fun j => md (bOf R) (part 3 j))

/-- The sub-key scores of a row `h`: its queries against the sub-keys of the head half's parity. -/
def stAt (h : Fin 1024 → EReal) (wq : Fin 1024 → Fin 2048 → EReal) (sk : Fin 2 → Fin 128 → Fin 128 → EReal) (hp : Fin 16) (n : Fin 128) : EReal :=
  score (rowMul h wq) (sk ⟨hp.val % 2, Nat.mod_lt _ (by decide)⟩) hp n

end Cert.MidSpec
-- ==== Proof.MidBlock.lean ====
/- What one grid step of the layer's middle call leaves in its three output blocks, as functions of the blocks it read. -/
module

public import proofs.«01_k».proof.Proof.MidSpec
public import proofs.«01_k».proof.Proof.Gen.Kernel2Ideal.Value
public import Idealize.ShloMosaic.Lib.Pipeline.ValueKit
public import Idealize.ShloMosaic.Lib.Pipeline.Value
public import Idealize.ShloMosaic.Lib.Pointwise

@[expose] public section

set_option maxRecDepth 16384

noncomputable section

namespace Cert.Kernel2Ideal.Mid

open Cert.Kernel2Ideal Cert.Kernel2Ideal.Gen Cert.MidSpec
open Idealize.ShloMosaic Idealize.ShloMosaic.TcCoe Idealize.ShloMosaic.Tactic
open Idealize.SL.Sem

theorem pay2_apply (x0 x1 : Vec Ideal S512x512 .bf16) (x2 : Vec Ideal S1024x1024 .bf16) (x3 : Vec Ideal S512x1024 .f32) (x4 : Vec Ideal S1x1x1x1024 .f32)
    (r : Fin 512) (j : Fin 1024) :
    k0_pay2 x0 x1 x2 x3 x4 (ix2 r j)
      = norm (resid (fun j => x3 (ix2 r j)) (fun j => x4 (ix4 0 0 0 j))
          (mix (fun k => x0 (ix2 r k)) (fun k => x1 (ix2 r k)) (fun k j => x2 (ix2 k j)))) j := by
  pointwise [k0_pay2]
  rfl

theorem pay4_apply (v : FVec Ideal S512x1024 .f32) (g b : Vec Ideal S1x1024 .f32) (r : Fin 512) (j : Fin 1024) :
    k0_pay4 v (k0_pay3 g) b (ix2 r j) = affine (fun j => v (ix2 r j)) (fun j => g (ix2 0 j)) (fun j => b (ix2 0 j)) j := by
  pointwise [k0_pay4, k0_pay3]
  rfl

theorem pay5_apply (v : FVec Ideal S512x1024 .f32) (g b : Vec Ideal S1x1024 .f32) (sc sh : Vec Ideal S1x1x1x1024 .f32) (r : Fin 512) (j : Fin 1024) :
    k0_pay5 v (k0_pay3 g) b sc sh (ix2 r j)
      = modulate (norm (fun j => k0_pay4 v (k0_pay3 g) b (ix2 r j))) (fun j => sc (ix4 0 0 0 j)) (fun j => sh (ix4 0 0 0 j)) j := by
  unfold k0_pay5
  generalize k0_pay4 v (k0_pay3 g) b = z
  pointwise
  rfl

theorem pay6_apply (h : FVec Ideal S512x1024 .bf16) (w : Vec Ideal S1024x2048 .bf16) (r : Fin 512) (j : Fin 2048) :
    k0_pay6 h w (ix2 r j) = rowMul (fun k => h (ix2 r k)) (fun k j => w (ix2 k j)) j := by
  pointwise [k0_pay6]
  rfl

theorem piece0_apply (h : FVec Ideal S512x1024 .bf16) (w : Vec Ideal S1024x2048 .bf16) (sk : Vec Ideal S1x128x128 .bf16) (n : Fin 128) (r : Fin 512) :
    k0_pay7 h w sk (ix3 0 n r) = score (fun l => k0_pay6 h w (ix2 r l)) (fun n k => sk (ix3 0 n k)) 0 n := by
  unfold k0_pay7
  generalize k0_pay6 h w = q
  pointwise
  refine Finset.sum_congr rfl fun k _ => ?_
  refine congrArg (fun z => sk (ix3 0 n k) * q (ix2 r z)) (Fin.ext ?_)
  show k.val = 128 * 0 + k.val
  omega

theorem piece1_apply (h : FVec Ideal S512x1024 .bf16) (w : Vec Ideal S1024x2048 .bf16) (sk : Vec Ideal S1x128x128 .bf16) (n : Fin 128) (r : Fin 512) :
    k0_pay8 h w sk (ix3 0 n r) = score (fun l => k0_pay6 h w (ix2 r l)) (fun n k => sk (ix3 0 n k)) 1 n := by
  unfold k0_pay8
  generalize k0_pay6 h w = q
  pointwise
  rfl

theorem piece2_apply (h : FVec Ideal S512x1024 .bf16) (w : Vec Ideal S1024x2048 .bf16) (sk : Vec Ideal S1x128x128 .bf16) (n : Fin 128) (r : Fin 512) :
    k0_pay9 h w sk (ix3 0 n r) = score (fun l => k0_pay6 h w (ix2 r l)) (fun n k => sk (ix3 0 n k)) 2 n := by
  unfold k0_pay9
  generalize k0_pay6 h w = q
  pointwise
  rfl

theorem piece3_apply (h : FVec Ideal S512x1024 .bf16) (w : Vec Ideal S1024x2048 .bf16) (sk : Vec Ideal S1x128x128 .bf16) (n : Fin 128) (r : Fin 512) :
    k0_pay11 (k0_pay10 h w sk) (ix3 0 n r) = score (fun l => k0_pay6 h w (ix2 r l)) (fun n k => sk (ix3 0 n k)) 3 n := by
  unfold k0_pay11 k0_pay10
  generalize k0_pay6 h w = q
  pointwise
  rfl

theorem piece4_apply (q : FVec Ideal S512x2048 .bf16) (sk : Vec Ideal S1x128x128 .bf16) (n : Fin 128) (r : Fin 512) :
    k0_pay12 q sk (ix3 0 n r) = score (fun l => q (ix2 r l)) (fun n k => sk (ix3 0 n k)) 4 n := by
  pointwise [k0_pay12]
  rfl

theorem piece5_apply (q : FVec Ideal S512x2048 .bf16) (sk : Vec Ideal S1x128x128 .bf16) (n : Fin 128) (r : Fin 512) :
    k0_pay13 q sk (ix3 0 n r) = score (fun l => q (ix2 r l)) (fun n k => sk (ix3 0 n k)) 5 n := by
  pointwise [k0_pay13]
  rfl

theorem piece6_apply (q : FVec Ideal S512x2048 .bf16) (sk : Vec Ideal S1x128x128 .bf16) (n : Fin 128) (r : Fin 512) :
    k0_pay14 q sk (ix3 0 n r) = score (fun l => q (ix2 r l)) (fun n k => sk (ix3 0 n k)) 6 n := by
  pointwise [k0_pay14]
  rfl

theorem piece7_apply (q : FVec Ideal S512x2048 .bf16) (sk : Vec Ideal S1x128x128 .bf16) (n : Fin 128) (r : Fin 512) :
    k0_pay16 (k0_pay15 q sk) (ix3 0 n r) = score (fun l => q (ix2 r l)) (fun n k => sk (ix3 0 n k)) 7 n := by
  pointwise [k0_pay16, k0_pay15]
  rfl

theorem piece8_apply (q : FVec Ideal S512x2048 .bf16) (sk : Vec Ideal S1x128x128 .bf16) (n : Fin 128) (r : Fin 512) :
    k0_pay17 q sk (ix3 0 n r) = score (fun l => q (ix2 r l)) (fun n k => sk (ix3 0 n k)) 8 n := by
  pointwise [k0_pay17]
  rfl

theorem piece9_apply (q : FVec Ideal S512x2048 .bf16) (sk : Vec Ideal S1x128x128 .bf16) (n : Fin 128) (r : Fin 512) :
    k0_pay18 q sk (ix3 0 n r) = score (fun l => q (ix2 r l)) (fun n k => sk (ix3 0 n k)) 9 n := by
  pointwise [k0_pay18]
  rfl

theorem piece10_apply (q : FVec Ideal S512x2048 .bf16) (sk : Vec Ideal S1x128x128 .bf16) (n : Fin 128) (r : Fin 512) :
    k0_pay19 q sk (ix3 0 n r) = score (fun l => q (ix2 r l)) (fun n k => sk (ix3 0 n k)) 10 n := by
  pointwise [k0_pay19]
  rfl

theorem piece11_apply (q : FVec Ideal S512x2048 .bf16) (sk : Vec Ideal S1x128x128 .bf16) (n : Fin 128) (r : Fin 512) :
    k0_pay21 (k0_pay20 q sk) (ix3 0 n r) = score (fun l => q (ix2 r l)) (fun n k => sk (ix3 0 n k)) 11 n := by
  pointwise [k0_pay21, k0_pay20]
  rfl

theorem piece12_apply (q : FVec Ideal S512x2048 .bf16) (sk : Vec Ideal S1x128x128 .bf16) (n : Fin 128) (r : Fin 512) :
    k0_pay22 q sk (ix3 0 n r) = score (fun l => q (ix2 r l)) (fun n k => sk (ix3 0 n k)) 12 n := by
  pointwise [k0_pay22]
  rfl

theorem piece13_apply (q : FVec Ideal S512x2048 .bf16) (sk : Vec Ideal S1x128x128 .bf16) (n : Fin 128) (r : Fin 512) :
    k0_pay23 q sk (ix3 0 n r) = score (fun l => q (ix2 r l)) (fun n k => sk (ix3 0 n k)) 13 n := by
  pointwise [k0_pay23]
  rfl

theorem piece14_apply (q : FVec Ideal S512x2048 .bf16) (sk : Vec Ideal S1x128x128 .bf16) (n : Fin 128) (r : Fin 512) :
    k0_pay24 q sk (ix3 0 n r) = score (fun l => q (ix2 r l)) (fun n k => sk (ix3 0 n k)) 14 n := by
  pointwise [k0_pay24]
  rfl

theorem piece15_apply (q : FVec Ideal S512x2048 .bf16) (sk : Vec Ideal S1x128x128 .bf16) (n : Fin 128) (r : Fin 512) :
    k0_pay1 (k0_pay25 q sk) (ix3 0 n r) = score (fun l => q (ix2 r l)) (fun n k => sk (ix3 0 n k)) 15 n := by
  pointwise [k0_pay1, k0_pay25]
  rfl

/-- A row of the step's new residual stream. -/
def x1Row (x0 x1 : Vec Ideal S512x512 .bf16) (x2 : Vec Ideal S1024x1024 .bf16) (x3 : Vec Ideal S512x1024 .f32)
    (x4 : Vec Ideal S1x1x1x1024 .f32) (x7 x8 : Vec Ideal S1x1024 .f32) (r : Fin 512) : Fin 1024 → EReal :=
  MidSpec.x1 (fun k => x0 (ix2 r k)) (fun k => x1 (ix2 r k)) (fun k j => x2 (ix2 k j)) (fun j => x3 (ix2 r j))
    (fun j => x4 (ix4 0 0 0 j)) (fun j => x7 (ix2 0 j)) (fun j => x8 (ix2 0 j))

theorem pay42_apply (x0 x1 : Vec Ideal S512x512 .bf16) (x2 : Vec Ideal S1024x1024 .bf16) (x3 : Vec Ideal S512x1024 .f32)
    (x4 : Vec Ideal S1x1x1x1024 .f32) (x7 x8 : Vec Ideal S1x1024 .f32) (r : Fin 512) (j : Fin 1024) :
    k0_pay4 (k0_pay2 x0 x1 x2 x3 x4) (k0_pay3 x7) x8 (ix2 r j) = x1Row x0 x1 x2 x3 x4 x7 x8 r j := by
  rw [pay4_apply]
  simp only [pay2_apply]
  rfl

theorem out11_open (x0 x1 : Vec Ideal S512x512 .bf16) (x2 : Vec Ideal S1024x1024 .bf16) (x3 : Vec Ideal S512x1024 .f32)
    (x4 x5 x6 : Vec Ideal S1x1x1x1024 .f32) (x7 x8 : Vec Ideal S1x1024 .f32) (x9 : Vec Ideal S1024x2048 .bf16) (x10 : Vec Ideal S2x128x128 .bf16) :
    out0_11 x0 x1 x2 x3 x4 x5 x6 x7 x8 x9 x10 = k0_pay4 (k0_pay2 x0 x1 x2 x3 x4) (k0_pay3 x7) x8 := by
  unfold_out out0_11
  frame_out

theorem out12_open (x0 x1 : Vec Ideal S512x512 .bf16) (x2 : Vec Ideal S1024x1024 .bf16) (x3 : Vec Ideal S512x1024 .f32)
    (x4 x5 x6 : Vec Ideal S1x1x1x1024 .f32) (x7 x8 : Vec Ideal S1x1024 .f32) (x9 : Vec Ideal S1024x2048 .bf16) (x10 : Vec Ideal S2x128x128 .bf16) :
    out0_12 x0 x1 x2 x3 x4 x5 x6 x7 x8 x9 x10 = k0_pay5 (k0_pay2 x0 x1 x2 x3 x4) (k0_pay3 x7) x8 x5 x6 := by
  unfold_out out0_12
  frame_out

theorem pay28_open (x0 x1 : Vec Ideal S512x512 .bf16) (x2 : Vec Ideal S1024x1024 .bf16) (x3 : Vec Ideal S512x1024 .f32)
    (x4 x5 x6 : Vec Ideal S1x1x1x1024 .f32) (x7 x8 : Vec Ideal S1x1024 .f32) (x9 : Vec Ideal S1024x2048 .bf16) (x10 : Vec Ideal S2x128x128 .bf16) :
    k0_pay28 x0 x1 x2 x3 x4 x5 x6 x7 x8 x9 x10 = k0_pay5 (k0_pay2 x0 x1 x2 x3 x4) (k0_pay3 x7) x8 x5 x6 := by
  unfold k0_pay28 k0_pay27 k0_pay26
  frame_out

end Cert.Kernel2Ideal.Mid
-- ==== Proof.MidArr.lean ====
/- What the three result arrays of the layer's middle call hold after the launch. -/
module

public import proofs.«01_k».proof.Proof.MidBlock

@[expose] public section

set_option maxRecDepth 16384

noncomputable section

namespace Cert.Kernel2Ideal.Mid

open Cert.Kernel2Ideal Cert.Kernel2Ideal.Gen Cert.MidSpec
open Idealize.ShloMosaic Idealize.ShloMosaic.TcCoe Idealize.ShloMosaic.Tactic
open Idealize.SL.Sem

/-! ## Re-shaped arrays read at an index -/

theorem flat512 (a : S8x2048x512.Idx → EReal) (R : Fin 16384) (k : Fin 512) :
    shapeCast S16384x512 a shapeCasts_S8x2048x512_S16384x512 (ix2 R k) = a (ix3 (bOf R) (qOf R) k) := by
  refine shapeCast_apply _ _ _ _ ?_
  rw [Shape.rowMajor_val_three, Shape.rowMajor_val_two]
  show ((R.val / 2048) * 2048 + R.val % 2048) * 512 + k.val = R.val * 512 + k.val
  omega

theorem flat1024 (a : S8x2048x1024.Idx → EReal) (R : Fin 16384) (k : Fin 1024) :
    shapeCast S16384x1024 a shapeCasts_S8x2048x1024_S16384x1024 (ix2 R k) = a (ix3 (bOf R) (qOf R) k) := by
  refine shapeCast_apply _ _ _ _ ?_
  rw [Shape.rowMajor_val_three, Shape.rowMajor_val_two]
  show ((R.val / 2048) * 2048 + R.val % 2048) * 1024 + k.val = R.val * 1024 + k.val
  omega

theorem sixParts (a : S8x6144.Idx → EReal) (b : Fin 8) (p : Fin 6) (j : Fin 1024) :
    shapeCast S8x6x1x1024 a shapeCasts_S8x6144_S8x6x1x1024 (ix4 b p 0 j) = a (ix2 b (part p j)) := by
  refine shapeCast_apply _ _ _ _ ?_
  rw [Shape.rowMajor_val_two, Shape.rowMajor_val_four]
  show b.val * 6144 + (1024 * p.val + j.val) = ((b.val * 6 + p.val) * 1 + 0) * 1024 + j.val
  omega

theorem drop_wout (a : S1x1024x1024.Idx → EReal) (k j : Fin 1024) :
    shapeCast S1024x1024 a shapeCasts_S1x1024x1024_S1024x1024 (ix2 k j) = a (ix3 0 k j) := by pointwise

theorem drop_wq (a : S1x1024x2048.Idx → EReal) (k : Fin 1024) (j : Fin 2048) :
    shapeCast S1024x2048 a shapeCasts_S1x1024x2048_S1024x2048 (ix2 k j) = a (ix3 0 k j) := by pointwise

theorem drop_sk (a : S1x2x128x128.Idx → EReal) (p : Fin 2) (n k : Fin 128) :
    shapeCast S2x128x128 a shapeCasts_S1x2x128x128_S2x128x128 (ix3 p n k) = a (ix4 0 p n k) := by pointwise

theorem drop_gain (a : S1x1024.Idx → EReal) (j : Fin 1024) :
    broadcastInDim S1x1024 ![1] bcast_S1024_S1x1024_1 (shapeCast S1024 a shapeCasts_S1x1024_S1024) (ix2 0 j) = a (ix2 0 j) := by pointwise

variable (m : (ℓ : Loc nD τ sig) → Buf (Elt Ideal) ℓ)

/-! ## The arrays the host prepares -/

theorem V_v0 (c : Dev nD) : (V m c main_v0 : S16384x512.Idx → EReal) = shapeCast S16384x512 (m ((c : Thread nD τ).loc main_arg0) : S8x2048x512.Idx → EReal) shapeCasts_S8x2048x512_S16384x512 := by
  unfold_abbrev_sides
  after_results
  rfl
theorem V_v1 (c : Dev nD) : (V m c main_v1 : S16384x512.Idx → EReal) = shapeCast S16384x512 (m ((c : Thread nD τ).loc main_arg1) : S8x2048x512.Idx → EReal) shapeCasts_S8x2048x512_S16384x512 := by
  unfold_abbrev_sides
  after_results
  rfl
theorem V_v3 (c : Dev nD) : (V m c main_v3 : S1024x1024.Idx → EReal) = shapeCast S1024x1024 (m ((c : Thread nD τ).loc main_arg4) : S1x1024x1024.Idx → EReal) shapeCasts_S1x1024x1024_S1024x1024 := by
  unfold_abbrev_sides
  after_results
  rfl
theorem V_v4 (c : Dev nD) : (V m c main_v4 : S16384x1024.Idx → EReal) = shapeCast S16384x1024 (m ((c : Thread nD τ).loc main_arg2) : S8x2048x1024.Idx → EReal) shapeCasts_S8x2048x1024_S16384x1024 := by
  unfold_abbrev_sides
  after_results
  rfl
theorem V_v5 (c : Dev nD) : (V m c main_v5 : S8x6x1x1024.Idx → EReal) = shapeCast S8x6x1x1024 (m ((c : Thread nD τ).loc main_arg3) : S8x6144.Idx → EReal) shapeCasts_S8x6144_S8x6x1x1024 := by
  unfold_abbrev_sides
  after_results
  rfl
theorem V_v7 (c : Dev nD) : (V m c main_v7 : S1x1024.Idx → EReal) = broadcastInDim S1x1024 ![1] bcast_S1024_S1x1024_1 (shapeCast S1024 (m ((c : Thread nD τ).loc main_arg5) : S1x1024.Idx → EReal) shapeCasts_S1x1024_S1024) := by
  unfold_abbrev_sides
  after_results
  rfl
theorem V_v9 (c : Dev nD) : (V m c main_v9 : S1x1024.Idx → EReal) = broadcastInDim S1x1024 ![1] bcast_S1024_S1x1024_1 (shapeCast S1024 (m ((c : Thread nD τ).loc main_arg6) : S1x1024.Idx → EReal) shapeCasts_S1x1024_S1024) := by
  unfold_abbrev_sides
  after_results
  rfl
theorem V_v11 (c : Dev nD) : (V m c main_v11 : S1024x2048.Idx → EReal) = shapeCast S1024x2048 (m ((c : Thread nD τ).loc main_arg7) : S1x1024x2048.Idx → EReal) shapeCasts_S1x1024x2048_S1024x2048 := by
  unfold_abbrev_sides
  after_results
  rfl
theorem V_v13 (c : Dev nD) : (V m c main_v13 : S2x128x128.Idx → EReal) = shapeCast S2x128x128 (m ((c : Thread nD τ).loc main_arg8) : S1x2x128x128.Idx → EReal) shapeCasts_S1x2x128x128_S2x128x128 := by
  unfold_abbrev_sides
  after_results
  rfl

/-! ## Where each window's block stands -/

theorem ix0_0 : ∀ t : Fin cfg0.N, win0_0.index t = ![t.val, 0] := (by decide +kernel : ∀ t : Fin grid0.N, win0_0.index t = ![t.val, 0])
theorem ix0_1 : ∀ t : Fin cfg0.N, win0_1.index t = ![t.val, 0] := (by decide +kernel : ∀ t : Fin grid0.N, win0_1.index t = ![t.val, 0])
theorem ix0_2 : ∀ t : Fin cfg0.N, win0_2.index t = ![0, 0] := (by decide +kernel : ∀ t : Fin grid0.N, win0_2.index t = ![0, 0])
theorem ix0_3 : ∀ t : Fin cfg0.N, win0_3.index t = ![t.val, 0] := (by decide +kernel : ∀ t : Fin grid0.N, win0_3.index t = ![t.val, 0])
theorem ix0_4 : ∀ t : Fin cfg0.N, win0_4.index t = ![t.val / 4, 2, 0, 0] := (by decide +kernel : ∀ t : Fin grid0.N, win0_4.index t = ![t.val / 4, 2, 0, 0])
theorem ix0_5 : ∀ t : Fin cfg0.N, win0_5.index t = ![t.val / 4, 4, 0, 0] := (by decide +kernel : ∀ t : Fin grid0.N, win0_5.index t = ![t.val / 4, 4, 0, 0])
theorem ix0_6 : ∀ t : Fin cfg0.N, win0_6.index t = ![t.val / 4, 3, 0, 0] := (by decide +kernel : ∀ t : Fin grid0.N, win0_6.index t = ![t.val / 4, 3, 0, 0])
theorem ix0_7 : ∀ t : Fin cfg0.N, win0_7.index t = ![0, 0] := (by decide +kernel : ∀ t : Fin grid0.N, win0_7.index t = ![0, 0])
theorem ix0_8 : ∀ t : Fin cfg0.N, win0_8.index t = ![0, 0] := (by decide +kernel : ∀ t : Fin grid0.N, win0_8.index t = ![0, 0])
theorem ix0_9 : ∀ t : Fin cfg0.N, win0_9.index t = ![0, 0] := (by decide +kernel : ∀ t : Fin grid0.N, win0_9.index t = ![0, 0])
theorem ix0_10 : ∀ t : Fin cfg0.N, win0_10.index t = ![0, 0, 0] := (by decide +kernel : ∀ t : Fin grid0.N, win0_10.index t = ![0, 0, 0])
theorem ix0_11 : ∀ t : Fin cfg0.N, win0_11.index t = ![t.val, 0] := (by decide +kernel : ∀ t : Fin grid0.N, win0_11.index t = ![t.val, 0])
theorem ix0_12 : ∀ t : Fin cfg0.N, win0_12.index t = ![t.val, 0] := (by decide +kernel : ∀ t : Fin grid0.N, win0_12.index t = ![t.val, 0])
theorem ix0_13 : ∀ t : Fin cfg0.N, win0_13.index t = ![0, 0, t.val] := (by decide +kernel : ∀ t : Fin grid0.N, win0_13.index t = ![0, 0, t.val])

/-! ## The blocks, in terms of the arguments -/

theorem blk0_0 (c : Dev nD) (t : Fin cfg0.N) (r k : Fin 512) (R : Fin 16384) (h : R.val = 512 * t.val + r.val) :
    iblk m c 0 t (ix2 r k) = (m ((c : Thread nD τ).loc main_arg0) : S8x2048x512.Idx → EReal) (ix3 (bOf R) (qOf R) k) := by
  have e : iblk m c 0 t (ix2 r k) = (V m c main_v0 : S16384x512.Idx → EReal) (ix2 R k) := by
    blk_ext [iblk, ix0_0]
  exact e.trans ((congrFun (V_v0 m c) _).trans (flat512 _ R k))
theorem blk0_1 (c : Dev nD) (t : Fin cfg0.N) (r k : Fin 512) (R : Fin 16384) (h : R.val = 512 * t.val + r.val) :
    iblk m c 1 t (ix2 r k) = (m ((c : Thread nD τ).loc main_arg1) : S8x2048x512.Idx → EReal) (ix3 (bOf R) (qOf R) k) := by
  have e : iblk m c 1 t (ix2 r k) = (V m c main_v1 : S16384x512.Idx → EReal) (ix2 R k) := by
    blk_ext [iblk, ix0_1]
  exact e.trans ((congrFun (V_v1 m c) _).trans (flat512 _ R k))
theorem blk0_2 (c : Dev nD) (t : Fin cfg0.N) (k j : Fin 1024)  :
    iblk m c 2 t (ix2 k j) = (m ((c : Thread nD τ).loc main_arg4) : S1x1024x1024.Idx → EReal) (ix3 0 k j) := by
  have e : iblk m c 2 t (ix2 k j) = (V m c main_v3 : S1024x1024.Idx → EReal) (ix2 k j) := by
    blk_ext [iblk, ix0_2]
  exact e.trans ((congrFun (V_v3 m c) _).trans (drop_wout _ k j))
theorem blk0_3 (c : Dev nD) (t : Fin cfg0.N) (r : Fin 512) (k : Fin 1024) (R : Fin 16384) (h : R.val = 512 * t.val + r.val) :
    iblk m c 3 t (ix2 r k) = (m ((c : Thread nD τ).loc main_arg2) : S8x2048x1024.Idx → EReal) (ix3 (bOf R) (qOf R) k) := by
  have e : iblk m c 3 t (ix2 r k) = (V m c main_v4 : S16384x1024.Idx → EReal) (ix2 R k) := by
    blk_ext [iblk, ix0_3]
  exact e.trans ((congrFun (V_v4 m c) _).trans (flat1024 _ R k))
theorem blk0_4 (c : Dev nD) (t : Fin cfg0.N) (j : Fin 1024) (b : Fin 8) (h : b.val = t.val / 4) :
    iblk m c 4 t (ix4 0 0 0 j) = (m ((c : Thread nD τ).loc main_arg3) : S8x6144.Idx → EReal) (ix2 b (part 2 j)) := by
  have e : iblk m c 4 t (ix4 0 0 0 j) = (V m c main_v5 : S8x6x1x1024.Idx → EReal) (ix4 b 2 0 j) := by
    blk_ext [iblk, ix0_4]
  exact e.trans ((congrFun (V_v5 m c) _).trans (sixParts _ b 2 j))
theorem blk0_5 (c : Dev nD) (t : Fin cfg0.N) (j : Fin 1024) (b : Fin 8) (h : b.val = t.val / 4) :
    iblk m c 5 t (ix4 0 0 0 j) = (m ((c : Thread nD τ).loc main_arg3) : S8x6144.Idx → EReal) (ix2 b (part 4 j)) := by
  have e : iblk m c 5 t (ix4 0 0 0 j) = (V m c main_v5 : S8x6x1x1024.Idx → EReal) (ix4 b 4 0 j) := by
    blk_ext [iblk, ix0_5]
  exact e.trans ((congrFun (V_v5 m c) _).trans (sixParts _ b 4 j))
theorem blk0_6 (c : Dev nD) (t : Fin cfg0.N) (j : Fin 1024) (b : Fin 8) (h : b.val = t.val / 4) :
    iblk m c 6 t (ix4 0 0 0 j) = (m ((c : Thread nD τ).loc main_arg3) : S8x6144.Idx → EReal) (ix2 b (part 3 j)) := by
  have e : iblk m c 6 t (ix4 0 0 0 j) = (V m c main_v5 : S8x6x1x1024.Idx → EReal) (ix4 b 3 0 j) := by
    blk_ext [iblk, ix0_6]
  exact e.trans ((congrFun (V_v5 m c) _).trans (sixParts _ b 3 j))
theorem blk0_7 (c : Dev nD) (t : Fin cfg0.N) (j : Fin 1024)  :
    iblk m c 7 t (ix2 0 j) = (m ((c : Thread nD τ).loc main_arg5) : S1x1024.Idx → EReal) (ix2 0 j) := by
  have e : iblk m c 7 t (ix2 0 j) = (V m c main_v7 : S1x1024.Idx → EReal) (ix2 0 j) := by
    blk_ext [iblk, ix0_7]
  exact e.trans ((congrFun (V_v7 m c) _).trans (drop_gain _ j))
theorem blk0_8 (c : Dev nD) (t : Fin cfg0.N) (j : Fin 1024)  :
    iblk m c 8 t (ix2 0 j) = (m ((c : Thread nD τ).loc main_arg6) : S1x1024.Idx → EReal) (ix2 0 j) := by
  have e : iblk m c 8 t (ix2 0 j) = (V m c main_v9 : S1x1024.Idx → EReal) (ix2 0 j) := by
    blk_ext [iblk, ix0_8]
  exact e.trans ((congrFun (V_v9 m c) _).trans (drop_gain _ j))
theorem blk0_9 (c : Dev nD) (t : Fin cfg0.N) (k : Fin 1024) (j : Fin 2048)  :
    iblk m c 9 t (ix2 k j) = (m ((c : Thread nD τ).loc main_arg7) : S1x1024x2048.Idx → EReal) (ix3 0 k j) := by
  have e : iblk m c 9 t (ix2 k j) = (V m c main_v11 : S1024x2048.Idx → EReal) (ix2 k j) := by
    blk_ext [iblk, ix0_9]
  exact e.trans ((congrFun (V_v11 m c) _).trans (drop_wq _ k j))
theorem blk0_10 (c : Dev nD) (t : Fin cfg0.N) (p : Fin 2) (n k : Fin 128)  :
    iblk m c 10 t (ix3 p n k) = (m ((c : Thread nD τ).loc main_arg8) : S1x2x128x128.Idx → EReal) (ix4 0 p n k) := by
  have e : iblk m c 10 t (ix3 p n k) = (V m c main_v13 : S2x128x128.Idx → EReal) (ix3 p n k) := by
    blk_ext [iblk, ix0_10]
  exact e.trans ((congrFun (V_v13 m c) _).trans (drop_sk _ p n k))

end Cert.Kernel2Ideal.Mid
-- ==== Proof.MidOut.lean ====
/- The middle call's scores block (sixteen pieces, one per head half), and its three result arrays after the launch. -/
module

public import proofs.«01_k».proof.Proof.MidArr
public import Idealize.ShloMosaic.Lib.Pipeline.ValueKit
public import Idealize.ShloMosaic.Lib.Pipeline.Value
public import Idealize.ShloMosaic.Lib.Pointwise

@[expose] public section

set_option maxRecDepth 16384

noncomputable section

namespace Cert.Kernel2Ideal.Mid

open Cert.Kernel2Ideal Cert.Kernel2Ideal.Gen Cert.MidSpec
open Idealize.ShloMosaic Idealize.ShloMosaic.TcCoe Idealize.ShloMosaic.Tactic
open Idealize.SL.Sem

theorem out12_apply (x0 x1 : Vec Ideal S512x512 .bf16) (x2 : Vec Ideal S1024x1024 .bf16) (x3 : Vec Ideal S512x1024 .f32)
    (x4 x5 x6 : Vec Ideal S1x1x1x1024 .f32) (x7 x8 : Vec Ideal S1x1024 .f32) (x9 : Vec Ideal S1024x2048 .bf16) (x10 : Vec Ideal S2x128x128 .bf16) (r : Fin 512) (j : Fin 1024) :
    k0_pay5 (k0_pay2 x0 x1 x2 x3 x4) (k0_pay3 x7) x8 x5 x6 (ix2 r j)
      = modulate (MidSpec.norm (x1Row x0 x1 x2 x3 x4 x7 x8 r)) (fun j => x5 (ix4 0 0 0 j)) (fun j => x6 (ix4 0 0 0 j)) j := by
  rw [pay5_apply]
  simp only [pay42_apply]

theorem inb13 : ∀ (hp : Fin 16) (a : Fin 3), (![hp.val, 0, 0] : Fin 3 → ℕ) a + S1x128x512.size a ≤ S16x128x512.size a := by decide +kernel

/-- Where piece `hp` stands in the block of scores. -/
theorem emb13 (hp : Fin 16) (inb : ∀ a, (![hp.val, 0, 0] : Fin 3 → ℕ) a + S1x128x512.size a ≤ S16x128x512.size a) (n : Fin 128) (r : Fin 512) :
    (Rect.unit (s := S16x128x512) ![hp.val, 0, 0] S1x128x512.size inb).emb (ix3 0 n r) = ix3 hp n r := by
  refine funext fun a => Fin.ext ?_
  rw [Rect.emb_apply]
  fin_cases a
  · show hp.val + 1 * 0 = hp.val; omega
  · show 0 + 1 * n.val = n.val; omega
  · show 0 + 1 * r.val = r.val; omega

theorem ld_sk0 (x10 : Vec Ideal S2x128x128 .bf16) (n k : Fin 128) : View.ld x10 r0_6 (ix3 0 n k) = x10 (ix3 0 n k) :=
  View.ld_unit_apply_of x10 _ _ _ _ (ix3 0 n k) (fun a => by fin_cases a <;> first | rfl | (show _ = 0 + _; exact (Nat.zero_add _).symm))
theorem ld_sk1 (x10 : Vec Ideal S2x128x128 .bf16) (n k : Fin 128) : View.ld x10 r0_8 (ix3 0 n k) = x10 (ix3 1 n k) :=
  View.ld_unit_apply_of x10 _ _ _ _ (ix3 1 n k) (fun a => by fin_cases a <;> first | rfl | (show _ = 0 + _; exact (Nat.zero_add _).symm))
theorem ld_wq (x9 : Vec Ideal S1024x2048 .bf16) : View.ld x9 r0_5 = x9 :=
  View.ld_unit_zero (by decide) _ x9

/-- The step's queries. -/
def qBlk (x0 x1 : Vec Ideal S512x512 .bf16) (x2 : Vec Ideal S1024x1024 .bf16) (x3 : Vec Ideal S512x1024 .f32)
    (x4 x5 x6 : Vec Ideal S1x1x1x1024 .f32) (x7 x8 : Vec Ideal S1x1024 .f32) (x9 : Vec Ideal S1024x2048 .bf16) (x10 : Vec Ideal S2x128x128 .bf16) : FVec Ideal S512x2048 .bf16 :=
  k0_pay6 (k0_pay5 (k0_pay2 x0 x1 x2 x3 x4) (k0_pay3 x7) x8 x5 x6) x9

/-- The scores of the step's queries `q` against the sub-keys. -/
def scoresOf (q : FVec Ideal S512x2048 .bf16) (sk : Vec Ideal S2x128x128 .bf16) (y : S16x128x512.Idx) : EReal :=
  score (fun l => q (ix2 (y 2) l)) (fun n k => sk (ix3 ⟨(y 0).val % 2, Nat.mod_lt _ (by decide)⟩ n k)) (y 0) (y 1)

theorem eq3 (x : S1x128x512.Idx) : ∃ (n : Fin 128) (r : Fin 512), x = ix3 0 n r :=
  ⟨x 1, x 2, (eq_ix3 x).trans (congrArg (fun z => ix3 z (x 1) (x 2)) (Subsingleton.elim (α := Fin 1) _ _))⟩

theorem sk0_fun (q : FVec Ideal S512x2048 .bf16) (x10 : Vec Ideal S2x128x128 .bf16) (hp : Fin 16) (h : hp.val % 2 = 0) (n : Fin 128) (r : Fin 512) :
    score (fun l => q (ix2 r l)) (fun n k => View.ld x10 r0_6 (ix3 0 n k)) hp n = scoresOf q x10 (ix3 hp n r) := by
  refine (congrArg (fun s => score (fun l => q (ix2 r l)) s hp n) (funext fun n => funext fun k => ld_sk0 x10 n k)).trans ?_
  refine congrArg (fun p => score (fun l => q (ix2 r l)) (fun n k => x10 (ix3 p n k)) hp n) (Fin.ext ?_)
  show 0 = hp.val % 2
  rw [h]

theorem sk1_fun (q : FVec Ideal S512x2048 .bf16) (x10 : Vec Ideal S2x128x128 .bf16) (hp : Fin 16) (h : hp.val % 2 = 1) (n : Fin 128) (r : Fin 512) :
    score (fun l => q (ix2 r l)) (fun n k => View.ld x10 r0_8 (ix3 0 n k)) hp n = scoresOf q x10 (ix3 hp n r) := by
  refine (congrArg (fun s => score (fun l => q (ix2 r l)) s hp n) (funext fun n => funext fun k => ld_sk1 x10 n k)).trans ?_
  refine congrArg (fun p => score (fun l => q (ix2 r l)) (fun n k => x10 (ix3 p n k)) hp n) (Fin.ext ?_)
  show 1 = hp.val % 2
  rw [h]

theorem out13_open (x0 x1 : Vec Ideal S512x512 .bf16) (x2 : Vec Ideal S1024x1024 .bf16) (x3 : Vec Ideal S512x1024 .f32)
    (x4 x5 x6 : Vec Ideal S1x1x1x1024 .f32) (x7 x8 : Vec Ideal S1x1024 .f32) (x9 : Vec Ideal S1024x2048 .bf16) (x10 : Vec Ideal S2x128x128 .bf16) :
    out0_13 x0 x1 x2 x3 x4 x5 x6 x7 x8 x9 x10 = scoresOf (qBlk x0 x1 x2 x3 x4 x5 x6 x7 x8 x9 x10) x10 := by
  have e29 : k0_pay29 x0 x1 x2 x3 x4 x5 x6 x7 x8 x9 x10 = qBlk x0 x1 x2 x3 x4 x5 x6 x7 x8 x9 x10 := by
    unfold k0_pay29 qBlk
    rw [pay28_open, ld_wq]
  have e6 : k0_pay6 (k0_pay28 x0 x1 x2 x3 x4 x5 x6 x7 x8 x9 x10) x9 = qBlk x0 x1 x2 x3 x4 x5 x6 x7 x8 x9 x10 := by
    unfold qBlk
    rw [pay28_open]
  unfold out0_13
  rw [ld_wq, e29]
  funext y
  refine View.canon_apply_of_pieces (Val := Elt Ideal) (e := .f32) (scoresOf (qBlk x0 x1 x2 x3 x4 x5 x6 x7 x8 x9 x10) x10) _ ?_ y (cover0_13 _ _ _ _ _ _ _ _ _ _ _ _ _ _ _ _ y)
  intro pc hpc
  rcases List.mem_cons.mp hpc with rfl | hpc
  · intro x
    obtain ⟨n, r, rfl⟩ := eq3 x
    exact (piece15_apply _ _ _ _).trans ((sk1_fun _ x10 15 rfl n r).trans (congrArg _ (emb13 15 (inb13 15) n r).symm))
  rcases List.mem_cons.mp hpc with rfl | hpc
  · intro x
    obtain ⟨n, r, rfl⟩ := eq3 x
    exact (piece14_apply _ _ _ _).trans ((sk0_fun _ x10 14 rfl n r).trans (congrArg _ (emb13 14 (inb13 14) n r).symm))
  rcases List.mem_cons.mp hpc with rfl | hpc
  · intro x
    obtain ⟨n, r, rfl⟩ := eq3 x
    exact (piece13_apply _ _ _ _).trans ((sk1_fun _ x10 13 rfl n r).trans (congrArg _ (emb13 13 (inb13 13) n r).symm))
  rcases List.mem_cons.mp hpc with rfl | hpc
  · intro x
    obtain ⟨n, r, rfl⟩ := eq3 x
    exact (piece12_apply _ _ _ _).trans ((sk0_fun _ x10 12 rfl n r).trans (congrArg _ (emb13 12 (inb13 12) n r).symm))
  rcases List.mem_cons.mp hpc with rfl | hpc
  · intro x
    obtain ⟨n, r, rfl⟩ := eq3 x
    exact (piece11_apply _ _ _ _).trans ((sk1_fun _ x10 11 rfl n r).trans (congrArg _ (emb13 11 (inb13 11) n r).symm))
  rcases List.mem_cons.mp hpc with rfl | hpc
  · intro x
    obtain ⟨n, r, rfl⟩ := eq3 x
    exact (piece10_apply _ _ _ _).trans ((sk0_fun _ x10 10 rfl n r).trans (congrArg _ (emb13 10 (inb13 10) n r).symm))
  rcases List.mem_cons.mp hpc with rfl | hpc
  · intro x
    obtain ⟨n, r, rfl⟩ := eq3 x
    exact (piece9_apply _ _ _ _).trans ((sk1_fun _ x10 9 rfl n r).trans (congrArg _ (emb13 9 (inb13 9) n r).symm))
  rcases List.mem_cons.mp hpc with rfl | hpc
  · intro x
    obtain ⟨n, r, rfl⟩ := eq3 x
    exact (piece8_apply _ _ _ _).trans ((sk0_fun _ x10 8 rfl n r).trans (congrArg _ (emb13 8 (inb13 8) n r).symm))
  rcases List.mem_cons.mp hpc with rfl | hpc
  · intro x
    obtain ⟨n, r, rfl⟩ := eq3 x
    exact (piece7_apply _ _ _ _).trans ((sk1_fun _ x10 7 rfl n r).trans (congrArg _ (emb13 7 (inb13 7) n r).symm))
  rcases List.mem_cons.mp hpc with rfl | hpc
  · intro x
    obtain ⟨n, r, rfl⟩ := eq3 x
    exact (piece6_apply _ _ _ _).trans ((sk0_fun _ x10 6 rfl n r).trans (congrArg _ (emb13 6 (inb13 6) n r).symm))
  rcases List.mem_cons.mp hpc with rfl | hpc
  · intro x
    obtain ⟨n, r, rfl⟩ := eq3 x
    exact (piece5_apply _ _ _ _).trans ((sk1_fun _ x10 5 rfl n r).trans (congrArg _ (emb13 5 (inb13 5) n r).symm))
  rcases List.mem_cons.mp hpc with rfl | hpc
  · intro x
    obtain ⟨n, r, rfl⟩ := eq3 x
    exact (piece4_apply _ _ _ _).trans ((sk0_fun _ x10 4 rfl n r).trans (congrArg _ (emb13 4 (inb13 4) n r).symm))
  rcases List.mem_cons.mp hpc with rfl | hpc
  · intro x
    obtain ⟨n, r, rfl⟩ := eq3 x
    exact (piece3_apply _ _ _ _ _).trans ((congrArg (fun q : FVec Ideal S512x2048 .bf16 => score (fun l => q (ix2 r l)) (fun n k => View.ld x10 r0_8 (ix3 0 n k)) 3 n) e6).trans ((sk1_fun _ x10 3 rfl n r).trans (congrArg _ (emb13 3 (inb13 3) n r).symm)))
  rcases List.mem_cons.mp hpc with rfl | hpc
  · intro x
    obtain ⟨n, r, rfl⟩ := eq3 x
    exact (piece2_apply _ _ _ _ _).trans ((congrArg (fun q : FVec Ideal S512x2048 .bf16 => score (fun l => q (ix2 r l)) (fun n k => View.ld x10 r0_6 (ix3 0 n k)) 2 n) e6).trans ((sk0_fun _ x10 2 rfl n r).trans (congrArg _ (emb13 2 (inb13 2) n r).symm)))
  rcases List.mem_cons.mp hpc with rfl | hpc
  · intro x
    obtain ⟨n, r, rfl⟩ := eq3 x
    exact (piece1_apply _ _ _ _ _).trans ((congrArg (fun q : FVec Ideal S512x2048 .bf16 => score (fun l => q (ix2 r l)) (fun n k => View.ld x10 r0_8 (ix3 0 n k)) 1 n) e6).trans ((sk1_fun _ x10 1 rfl n r).trans (congrArg _ (emb13 1 (inb13 1) n r).symm)))
  rcases List.mem_cons.mp hpc with rfl | hpc
  · intro x
    obtain ⟨n, r, rfl⟩ := eq3 x
    exact (piece0_apply _ _ _ _ _).trans ((congrArg (fun q : FVec Ideal S512x2048 .bf16 => score (fun l => q (ix2 r l)) (fun n k => View.ld x10 r0_6 (ix3 0 n k)) 0 n) e6).trans ((sk0_fun _ x10 0 rfl n r).trans (congrArg _ (emb13 0 (inb13 0) n r).symm)))
  nomatch hpc

/-! ## The three arrays after the launch -/

variable (m : (ℓ : Loc nD τ sig) → Buf (Elt Ideal) ℓ)

/-- The new residual stream of flat token `R`, in terms of the arguments. -/
def kx1 (c : Dev nD) (R : Fin 16384) : Fin 1024 → EReal :=
  x1At (fun b q k => (m ((c : Thread nD τ).loc main_arg0) : S8x2048x512.Idx → EReal) (ix3 b q k))
    (fun b q k => (m ((c : Thread nD τ).loc main_arg1) : S8x2048x512.Idx → EReal) (ix3 b q k))
    (fun b q k => (m ((c : Thread nD τ).loc main_arg2) : S8x2048x1024.Idx → EReal) (ix3 b q k))
    (fun b l => (m ((c : Thread nD τ).loc main_arg3) : S8x6144.Idx → EReal) (ix2 b l))
    (fun k j => (m ((c : Thread nD τ).loc main_arg4) : S1x1024x1024.Idx → EReal) (ix3 0 k j))
    (fun j => (m ((c : Thread nD τ).loc main_arg5) : S1x1024.Idx → EReal) (ix2 0 j))
    (fun j => (m ((c : Thread nD τ).loc main_arg6) : S1x1024.Idx → EReal) (ix2 0 j)) R

/-- The modulated norm of flat token `R`. -/
def kh2 (c : Dev nD) (R : Fin 16384) : Fin 1024 → EReal :=
  h2At (kx1 m c R) (fun b l => (m ((c : Thread nD τ).loc main_arg3) : S8x6144.Idx → EReal) (ix2 b l)) R

/-- The sub-key scores of flat token `R`. -/
def kst (c : Dev nD) (hp : Fin 16) (n : Fin 128) (R : Fin 16384) : EReal :=
  stAt (kh2 m c R) (fun k j => (m ((c : Thread nD τ).loc main_arg7) : S1x1024x2048.Idx → EReal) (ix3 0 k j))
    (fun p n k => (m ((c : Thread nD τ).loc main_arg8) : S1x2x128x128.Idx → EReal) (ix4 0 p n k)) hp n

theorem row_eq (c : Dev nD) (t : Fin cfg0.N) (r : Fin 512) (R : Fin 16384) (h : R.val = 512 * t.val + r.val) :
    x1Row (iblk m c 0 t) (iblk m c 1 t) (iblk m c 2 t) (iblk m c 3 t) (iblk m c 4 t) (iblk m c 7 t) (iblk m c 8 t) r = kx1 m c R := by
  have hr := r.isLt
  have hb : (bOf R).val = t.val / 4 := by show R.val / 2048 = _; omega
  unfold x1Row kx1 x1At
  simp only [blk0_0 m c t r _ R h, blk0_1 m c t r _ R h, blk0_2 m c t, blk0_3 m c t r _ R h, blk0_4 m c t _ _ hb, blk0_7 m c t, blk0_8 m c t]

theorem h2_eq (c : Dev nD) (t : Fin cfg0.N) (r : Fin 512) (j : Fin 1024) (R : Fin 16384) (h : R.val = 512 * t.val + r.val) :
    k0_pay5 (k0_pay2 (iblk m c 0 t) (iblk m c 1 t) (iblk m c 2 t) (iblk m c 3 t) (iblk m c 4 t)) (k0_pay3 (iblk m c 7 t)) (iblk m c 8 t)
      (iblk m c 5 t) (iblk m c 6 t) (ix2 r j) = kh2 m c R j := by
  have hr := r.isLt
  have hb : (bOf R).val = t.val / 4 := by show R.val / 2048 = _; omega
  refine (out12_apply _ _ _ _ _ _ _ _ _ (iblk m c 9 t) (iblk m c 10 t) r j).trans ?_
  rw [row_eq m c t r R h]
  unfold kh2 h2At
  simp only [blk0_5 m c t _ _ hb, blk0_6 m c t _ _ hb]

theorem st_eq (c : Dev nD) (t : Fin cfg0.N) (hp : Fin 16) (n : Fin 128) (r : Fin 512) (R : Fin 16384) (h : R.val = 512 * t.val + r.val) :
    scoresOf (qBlk (iblk m c 0 t) (iblk m c 1 t) (iblk m c 2 t) (iblk m c 3 t) (iblk m c 4 t) (iblk m c 5 t) (iblk m c 6 t) (iblk m c 7 t)
      (iblk m c 8 t) (iblk m c 9 t) (iblk m c 10 t)) (iblk m c 10 t) (ix3 hp n r) = kst m c hp n R := by
  unfold kst stAt
  refine congrArg₂ (fun q s => score q s hp n) (funext fun l => ?_) (funext fun n => funext fun k => ?_)
  · refine (pay6_apply _ _ r l).trans ?_
    refine congrArg₂ (fun h w => rowMul h w l) (funext fun j => h2_eq m c t r j R h) (funext fun k => funext fun j => blk0_9 m c t k j)
  · exact blk0_10 m c t _ n k

theorem eq2 (x : S512x1024.Idx) : ∃ (r : Fin 512) (j : Fin 1024), x = ix2 r j := ⟨x 0, x 1, eq_ix2 x⟩

theorem emb0_11 (t : Fin cfg0.N) (r : Fin 512) (j : Fin 1024) (R : Fin 16384) (h : R.val = 512 * t.val + r.val) :
    (win0_11.blk t).view.emb (ix2 r j) = ix2 R j := by
  blk_ext [ix0_11]
theorem emb0_12 (t : Fin cfg0.N) (r : Fin 512) (j : Fin 1024) (R : Fin 16384) (h : R.val = 512 * t.val + r.val) :
    (win0_12.blk t).view.emb (ix2 r j) = ix2 R j := by
  blk_ext [ix0_12]
theorem emb0_13 (t : Fin cfg0.N) (hp : Fin 16) (n : Fin 128) (r : Fin 512) (R : Fin 16384) (h : R.val = 512 * t.val + r.val) :
    (win0_13.blk t).view.emb (ix3 hp n r) = ix3 hp n R := by
  blk_ext [ix0_13]

end Cert.Kernel2Ideal.Mid
-- ==== Proof.MidFinal.lean ====
/- The layer's middle call: its three result arrays after the launch, as functions of the arguments. -/
module

public import proofs.«01_k».proof.Proof.MidOut
public import Idealize.ShloMosaic.Lib.Pipeline.ValueKit
public import Idealize.ShloMosaic.Lib.Pipeline.Value
public import Idealize.ShloMosaic.Lib.Pointwise

@[expose] public section

set_option maxRecDepth 16384

noncomputable section

namespace Cert.Kernel2Ideal.Mid

open Cert.Kernel2Ideal Cert.Kernel2Ideal.Gen Cert.MidSpec
open Idealize.ShloMosaic Idealize.ShloMosaic.TcCoe Idealize.ShloMosaic.Tactic
open Idealize.SL.Sem

variable (m : (ℓ : Loc nD τ sig) → Buf (Elt Ideal) ℓ)

def kx1Arr (c : Dev nD) : S16384x1024.Idx → EReal := fun i => kx1 m c (i 0) (i 1)
def kh2Arr (c : Dev nD) : S16384x1024.Idx → EReal := fun i => kh2 m c (i 0) (i 1)
def kstArr (c : Dev nD) : S16x128x16384.Idx → EReal := fun i => kst m c (i 0) (i 1) (i 2)

theorem arr11 (c : Dev nD) : (dats m 0 c).arrAt 11 cfg0.N = kx1Arr m c := by
  refine (dats m 0 c).arrAt_eq_of_covers 11 _ (by decide +kernel) fun t hf y => ?_
  blk_simp
  rw [after0_11, out11_open]
  obtain ⟨r, j, rfl⟩ : ∃ (r : Fin 512) (j : Fin 1024), y = ix2 r j := eq2 y
  have ht : t.val < 32 := t.isLt
  have hr := r.isLt
  refine (pay42_apply _ _ _ _ _ _ _ r j).trans ((congrFun (row_eq m c t r ⟨512 * t.val + r.val, by omega⟩ rfl) j).trans ?_)
  refine Eq.trans ?_ (congrArg _ (emb0_11 t r j ⟨512 * t.val + r.val, by omega⟩ rfl)).symm
  rfl

theorem arr12 (c : Dev nD) : (dats m 0 c).arrAt 12 cfg0.N = kh2Arr m c := by
  refine (dats m 0 c).arrAt_eq_of_covers 12 _ (by decide +kernel) fun t hf y => ?_
  blk_simp
  rw [after0_12, out12_open]
  obtain ⟨r, j, rfl⟩ : ∃ (r : Fin 512) (j : Fin 1024), y = ix2 r j := eq2 y
  have ht : t.val < 32 := t.isLt
  have hr := r.isLt
  refine (h2_eq m c t r j ⟨512 * t.val + r.val, by omega⟩ rfl).trans ?_
  refine Eq.trans ?_ (congrArg _ (emb0_12 t r j ⟨512 * t.val + r.val, by omega⟩ rfl)).symm
  rfl

theorem arr13 (c : Dev nD) : (dats m 0 c).arrAt 13 cfg0.N = kstArr m c := by
  refine (dats m 0 c).arrAt_eq_of_covers 13 _ (by decide +kernel) fun t hf y => ?_
  blk_simp
  rw [after0_13, out13_open]
  obtain ⟨hp, n, r, rfl⟩ : ∃ (hp : Fin 16) (n : Fin 128) (r : Fin 512), y = ix3 hp n r := ⟨y 0, y 1, y 2, eq_ix3 y⟩
  have ht : t.val < 32 := t.isLt
  have hr := r.isLt
  refine (st_eq m c t hp n r ⟨512 * t.val + r.val, by omega⟩ rfl).trans ?_
  refine Eq.trans ?_ (congrArg _ (emb0_13 t hp n r ⟨512 * t.val + r.val, by omega⟩ rfl)).symm
  rfl

end Cert.Kernel2Ideal.Mid
-- ==== Proof.MidRef.lean ====
/- The reference's rows: its arrays read at an index, as the same row mathematics. -/
module

public import proofs.«01_k».proof.Proof.MidSpec
public import proofs.«01_k».proof.Proof.Gen.Reference2Ideal.Read
public import Idealize.ShloMosaic.Lib.Pipeline.ValueKit
public import Idealize.ShloMosaic.Lib.Pointwise

@[expose] public section

set_option maxRecDepth 16384

noncomputable section

namespace Cert.Reference2Ideal.Mid

open Cert.Reference2Ideal Cert.Reference2Ideal.Gen Cert.Reference2Ideal.Read Cert.MidSpec
open Idealize.ShloMosaic Idealize.ShloMosaic.TcCoe Idealize.ShloMosaic.Tactic

theorem v11_apply (x0 x1 : S8x2048x512.Idx → EReal) (x4 : S1x1024x1024.Idx → EReal) (b : Fin 8) (q : Fin 2048) (j : Fin 1024) :
    (val_main_v11 (F := Ideal) x0 x1 x4 : S8x2048x1024.Idx → EReal) (ix3 b q j)
      = mix (fun k => x0 (ix3 b q k)) (fun k => x1 (ix3 b q k)) (fun k j => x4 (ix3 0 k j)) j := by
  pointwise [val_main_v11, val_main_v10, val_main_v9, val_main_v8, val_main_v7]
  rfl

theorem v18_apply (x0 x1 : S8x2048x512.Idx → EReal) (x2 : S8x2048x1024.Idx → EReal) (x3 : S8x6144.Idx → EReal) (x4 : S1x1024x1024.Idx → EReal)
    (b : Fin 8) (q : Fin 2048) (j : Fin 1024) :
    (val_main_v18 (F := Ideal) x0 x1 x2 x3 x4 : S8x2048x1024.Idx → EReal) (ix3 b q j)
      = resid (fun j => x2 (ix3 b q j)) (fun j => x3 (ix2 b (part 2 j)))
          (fun j => (val_main_v11 (F := Ideal) x0 x1 x4 : S8x2048x1024.Idx → EReal) (ix3 b q j)) j := by
  unfold val_main_v18 val_main_v17 val_main_v16 val_main_v15 val_main_v14 val_main_v13 val_main_v12
  generalize val_main_v11 (F := Ideal) x0 x1 x4 = y
  pointwise [val_main_v3, val_main_v0, val_main_cst, val_main_cst_0]
  rfl

theorem v36_apply (x0 x1 : S8x2048x512.Idx → EReal) (x2 : S8x2048x1024.Idx → EReal) (x3 : S8x6144.Idx → EReal) (x4 : S1x1024x1024.Idx → EReal)
    (b : Fin 8) (q : Fin 2048) (j : Fin 1024) :
    (val_main_v36 (F := Ideal) x0 x1 x2 x3 x4 : S8x2048x1024.Idx → EReal) (ix3 b q j)
      = norm (fun j => (val_main_v18 (F := Ideal) x0 x1 x2 x3 x4 : S8x2048x1024.Idx → EReal) (ix3 b q j)) j := by
  unfold val_main_v36 val_main_v35 val_main_v34 val_main_v33 val_main_v32 val_main_v31 val_main_v30 val_main_v29 val_main_v28 val_main_v27 val_main_v26 val_main_v25 val_main_v24 val_main_v23 val_main_v22 val_main_v21 val_main_v20 val_main_v19
  generalize val_main_v18 (F := Ideal) x0 x1 x2 x3 x4 = y
  pointwise [val_main_cst_1, val_main_cst_2, val_main_cst_3, val_main_cst_4, val_main_cst_5]
  rfl

theorem v44_apply (x0 x1 : S8x2048x512.Idx → EReal) (x2 : S8x2048x1024.Idx → EReal) (x3 : S8x6144.Idx → EReal) (x4 : S1x1024x1024.Idx → EReal)
    (x5 x6 : S1x1024.Idx → EReal)
    (b : Fin 8) (q : Fin 2048) (j : Fin 1024) :
    (val_main_v44 (F := Ideal) x0 x1 x2 x3 x4 x5 x6 : S8x2048x1024.Idx → EReal) (ix3 b q j)
      = affine (fun j => (val_main_v36 (F := Ideal) x0 x1 x2 x3 x4 : S8x2048x1024.Idx → EReal) (ix3 b q j)) (fun j => x5 (ix2 0 j)) (fun j => x6 (ix2 0 j)) j := by
  unfold val_main_v44 val_main_v43 val_main_v42 val_main_v41 val_main_v40 val_main_v39 val_main_v38 val_main_v37
  generalize val_main_v36 (F := Ideal) x0 x1 x2 x3 x4 = y
  pointwise
  rfl

theorem v62_apply (x0 x1 : S8x2048x512.Idx → EReal) (x2 : S8x2048x1024.Idx → EReal) (x3 : S8x6144.Idx → EReal) (x4 : S1x1024x1024.Idx → EReal)
    (x5 x6 : S1x1024.Idx → EReal)
    (b : Fin 8) (q : Fin 2048) (j : Fin 1024) :
    (val_main_v62 (F := Ideal) x0 x1 x2 x3 x4 x5 x6 : S8x2048x1024.Idx → EReal) (ix3 b q j)
      = norm (fun j => (val_main_v44 (F := Ideal) x0 x1 x2 x3 x4 x5 x6 : S8x2048x1024.Idx → EReal) (ix3 b q j)) j := by
  unfold val_main_v62 val_main_v61 val_main_v60 val_main_v59 val_main_v58 val_main_v57 val_main_v56 val_main_v55 val_main_v54 val_main_v53 val_main_v52 val_main_v51 val_main_v50 val_main_v49 val_main_v48 val_main_v47 val_main_v46 val_main_v45
  generalize val_main_v44 (F := Ideal) x0 x1 x2 x3 x4 x5 x6 = y
  pointwise [val_main_cst_6, val_main_cst_7, val_main_cst_8, val_main_cst_9, val_main_cst_10]
  rfl

theorem v68_apply (x0 x1 : S8x2048x512.Idx → EReal) (x2 : S8x2048x1024.Idx → EReal) (x3 : S8x6144.Idx → EReal) (x4 : S1x1024x1024.Idx → EReal)
    (x5 x6 : S1x1024.Idx → EReal)
    (b : Fin 8) (q : Fin 2048) (j : Fin 1024) :
    (val_main_v68 (F := Ideal) x0 x1 x2 x3 x4 x5 x6 : S8x2048x1024.Idx → EReal) (ix3 b q j)
      = modulate (fun j => (val_main_v62 (F := Ideal) x0 x1 x2 x3 x4 x5 x6 : S8x2048x1024.Idx → EReal) (ix3 b q j))
          (fun j => x3 (ix2 b (part 4 j))) (fun j => x3 (ix2 b (part 3 j))) j := by
  unfold val_main_v68 val_main_v67 val_main_v66 val_main_v65 val_main_v64 val_main_v63
  generalize val_main_v62 (F := Ideal) x0 x1 x2 x3 x4 x5 x6 = y
  pointwise [val_main_v5, val_main_v4, val_main_v0, val_main_cst_11]
  rfl

theorem flat (a : S8x2048x1024.Idx → EReal) (R : Fin 16384) (k : Fin 1024) :
    shapeCast S16384x1024 a shapeCasts_S8x2048x1024_S16384x1024 (ix2 R k) = a (ix3 (bOf R) (qOf R) k) := by
  refine shapeCast_apply _ _ _ _ ?_
  rw [Shape.rowMajor_val_three, Shape.rowMajor_val_two]
  show ((R.val / 2048) * 2048 + R.val % 2048) * 1024 + k.val = R.val * 1024 + k.val
  omega

/-- The reference's residual stream at a flat token. -/
theorem x1_row (x0 x1 : S8x2048x512.Idx → EReal) (x2 : S8x2048x1024.Idx → EReal) (x3 : S8x6144.Idx → EReal) (x4 : S1x1024x1024.Idx → EReal)
    (x5 x6 : S1x1024.Idx → EReal) (R : Fin 16384) :
    (fun j : Fin 1024 => (val_main_v44 (F := Ideal) x0 x1 x2 x3 x4 x5 x6 : S8x2048x1024.Idx → EReal) (ix3 (bOf R) (qOf R) j))
      = x1At (fun b q k => x0 (ix3 b q k)) (fun b q k => x1 (ix3 b q k)) (fun b q k => x2 (ix3 b q k)) (fun b l => x3 (ix2 b l))
          (fun k j => x4 (ix3 0 k j)) (fun j => x5 (ix2 0 j)) (fun j => x6 (ix2 0 j)) R := by
  funext j
  simp only [v44_apply, v36_apply, v18_apply, v11_apply]
  rfl

/-- The reference's modulated norm at a flat token. -/
theorem h2_row (x0 x1 : S8x2048x512.Idx → EReal) (x2 : S8x2048x1024.Idx → EReal) (x3 : S8x6144.Idx → EReal) (x4 : S1x1024x1024.Idx → EReal)
    (x5 x6 : S1x1024.Idx → EReal) (R : Fin 16384) :
    (fun j : Fin 1024 => (val_main_v68 (F := Ideal) x0 x1 x2 x3 x4 x5 x6 : S8x2048x1024.Idx → EReal) (ix3 (bOf R) (qOf R) j))
      = h2At (fun j : Fin 1024 => (val_main_v44 (F := Ideal) x0 x1 x2 x3 x4 x5 x6 : S8x2048x1024.Idx → EReal) (ix3 (bOf R) (qOf R) j)) (fun b l => x3 (ix2 b l)) R := by
  funext j
  simp only [v68_apply, v62_apply]
  rfl

theorem v76_apply (x0 x1 : S8x2048x512.Idx → EReal) (x2 : S8x2048x1024.Idx → EReal) (x3 : S8x6144.Idx → EReal) (x4 : S1x1024x1024.Idx → EReal)
    (x5 x6 : S1x1024.Idx → EReal) (R : Fin 16384) (j : Fin 1024) :
    (val_main_v76 (F := Ideal) x0 x1 x2 x3 x4 x5 x6 : S16384x1024.Idx → EReal) (ix2 R j)
      = (val_main_v44 (F := Ideal) x0 x1 x2 x3 x4 x5 x6 : S8x2048x1024.Idx → EReal) (ix3 (bOf R) (qOf R) j) := flat _ R j

theorem v78_apply (x0 x1 : S8x2048x512.Idx → EReal) (x2 : S8x2048x1024.Idx → EReal) (x3 : S8x6144.Idx → EReal) (x4 : S1x1024x1024.Idx → EReal)
    (x5 x6 : S1x1024.Idx → EReal) (R : Fin 16384) (j : Fin 1024) :
    (val_main_v78 (F := Ideal) x0 x1 x2 x3 x4 x5 x6 : S16384x1024.Idx → EReal) (ix2 R j)
      = (val_main_v68 (F := Ideal) x0 x1 x2 x3 x4 x5 x6 : S8x2048x1024.Idx → EReal) (ix3 (bOf R) (qOf R) j) := flat _ R j

theorem v71_apply (x0 x1 : S8x2048x512.Idx → EReal) (x2 : S8x2048x1024.Idx → EReal) (x3 : S8x6144.Idx → EReal) (x4 : S1x1024x1024.Idx → EReal)
    (x5 x6 : S1x1024.Idx → EReal) (x7 : S1x1024x2048.Idx → EReal) (R : Fin 16384) (l : Fin 2048) :
    (val_main_v71 (F := Ideal) x0 x1 x2 x3 x4 x5 x6 x7 : S16384x2048.Idx → EReal) (ix2 R l)
      = rowMul (fun j => (val_main_v68 (F := Ideal) x0 x1 x2 x3 x4 x5 x6 : S8x2048x1024.Idx → EReal) (ix3 (bOf R) (qOf R) j)) (fun k j => x7 (ix3 0 k j)) l := by
  have e : (val_main_v71 (F := Ideal) x0 x1 x2 x3 x4 x5 x6 x7 : S16384x2048.Idx → EReal) (ix2 R l)
      = rowMul (fun j => (val_main_v69 (F := Ideal) x0 x1 x2 x3 x4 x5 x6 : S16384x1024.Idx → EReal) (ix2 R j)) (fun k j => x7 (ix3 0 k j)) l := by
    unfold val_main_v71 val_main_v70
    generalize val_main_v69 (F := Ideal) x0 x1 x2 x3 x4 x5 x6 = y
    pointwise
    rfl
  rw [e]
  exact congrArg (fun y => rowMul y (fun k j => x7 (ix3 0 k j)) l) (funext fun j => flat _ R j)

theorem split16 (a : S8x2x128x16384.Idx → EReal) (hp : Fin 16) (n : Fin 128) (R : Fin 16384) (h : Fin 8) (p : Fin 2) (hh : hp.val = 2 * h.val + p.val) :
    shapeCast S16x128x16384 a shapeCasts_S8x2x128x16384_S16x128x16384 (ix3 hp n R) = a (ix4 h p n R) := by
  refine shapeCast_apply _ _ _ _ ?_
  rw [Shape.rowMajor_val_four, Shape.rowMajor_val_three]
  show ((h.val * 2 + p.val) * 128 + n.val) * 16384 + R.val = (hp.val * 128 + n.val) * 16384 + R.val
  omega

theorem splitQ (a : S16384x2048.Idx → EReal) (R : Fin 16384) (h : Fin 8) (p : Fin 2) (k : Fin 128) (l : Fin 2048) (hl : l.val = 256 * h.val + 128 * p.val + k.val) :
    shapeCast S16384x8x2x128 a shapeCasts_S16384x2048_S16384x8x2x128 (ix4 R h p k) = a (ix2 R l) := by
  refine shapeCast_apply _ _ _ _ ?_
  rw [Shape.rowMajor_val_two, Shape.rowMajor_val_four]
  show R.val * 2048 + l.val = ((R.val * 8 + h.val) * 2 + p.val) * 128 + k.val
  omega

theorem v79_apply (x0 x1 : S8x2048x512.Idx → EReal) (x2 : S8x2048x1024.Idx → EReal) (x3 : S8x6144.Idx → EReal) (x4 : S1x1024x1024.Idx → EReal)
    (x5 x6 : S1x1024.Idx → EReal) (x7 : S1x1024x2048.Idx → EReal) (x8 : S1x2x128x128.Idx → EReal) (h : Fin 8) (p : Fin 2) (n : Fin 128) (R : Fin 16384) :
    (val_main_v79 (F := Ideal) x0 x1 x2 x3 x4 x5 x6 x7 x8 : S8x2x128x16384.Idx → EReal) (ix4 h p n R)
      = ∑ k : Fin 128, x8 (ix4 0 p n k) * (val_main_v72 (F := Ideal) x0 x1 x2 x3 x4 x5 x6 x7 : S16384x8x2x128.Idx → EReal) (ix4 R h p k) := by
  unfold val_main_v79 val_main_v75 val_main_v74 val_main_v73
  generalize val_main_v72 (F := Ideal) x0 x1 x2 x3 x4 x5 x6 x7 = y
  pointwise

theorem v80_apply (x0 x1 : S8x2048x512.Idx → EReal) (x2 : S8x2048x1024.Idx → EReal) (x3 : S8x6144.Idx → EReal) (x4 : S1x1024x1024.Idx → EReal)
    (x5 x6 : S1x1024.Idx → EReal) (x7 : S1x1024x2048.Idx → EReal) (x8 : S1x2x128x128.Idx → EReal) (hp : Fin 16) (n : Fin 128) (R : Fin 16384) :
    (val_main_v80 (F := Ideal) x0 x1 x2 x3 x4 x5 x6 x7 x8 : S16x128x16384.Idx → EReal) (ix3 hp n R)
      = stAt (fun j => (val_main_v68 (F := Ideal) x0 x1 x2 x3 x4 x5 x6 : S8x2048x1024.Idx → EReal) (ix3 (bOf R) (qOf R) j)) (fun k j => x7 (ix3 0 k j))
          (fun p n k => x8 (ix4 0 p n k)) hp n := by
  have hhp := hp.isLt
  refine (split16 _ hp n R ⟨hp.val / 2, by omega⟩ ⟨hp.val % 2, Nat.mod_lt _ (by decide)⟩ (by show hp.val = 2 * (hp.val / 2) + hp.val % 2; omega)).trans ?_
  refine (v79_apply x0 x1 x2 x3 x4 x5 x6 x7 x8 _ _ n R).trans ?_
  unfold stAt score
  refine Finset.sum_congr rfl fun k _ => congrArg _ ?_
  refine (splitQ _ R _ _ k ⟨128 * hp.val + k.val, by omega⟩ (by show 128 * hp.val + k.val = 256 * (hp.val / 2) + 128 * (hp.val % 2) + k.val; omega)).trans ?_
  exact v71_apply x0 x1 x2 x3 x4 x5 x6 x7 R _

end Cert.Reference2Ideal.Mid
-- ==== Proof.MidClaim.lean ====
/- The middle call's claims: the frames of its program, of its ideal reading and of its reference, and the equation of
   their three results. -/
module

public import proofs.«01_k».proof.Defs
public import proofs.«01_k».proof.Proof.MidFinal
public import proofs.«01_k».proof.Proof.MidRef
public import proofs.«01_k».proof.Proof.Gen.Kernel2
public import proofs.«01_k».proof.Proof.Gen.Kernel2.Frame

@[expose] public section

set_option maxRecDepth 16384

noncomputable section

namespace Cert.Proof

open Idealize.ShloMosaic Idealize.ShloMosaic.TcCoe Idealize.SL.Sem
open Cert.Kernel2Ideal.Mid

theorem frame_kernel2 : Cert.quiescent_Kernel2 := fun m ρ _ => Cert.Kernel2.Gen.frame m ρ

theorem frame_ideal2 : Cert.quiescent_Kernel2Ideal := fun m ρ _ => Cert.Kernel2Ideal.Gen.frame m ρ

theorem frame_reference2 : Cert.quiescent_Reference2Ideal := fun m ρ _ =>
  (θ_run Cert.Reference2Ideal.defs _ _).mono (fun r h => ⟨fun c => (h c).2.2.2, sem_eq_zero_of_no_sems (by decide) r.2⟩) (Cert.Reference2Ideal.Value.run (F := Ideal) m ρ)

section
variable (m : (ℓ : Loc Cert.Kernel2Ideal.nD Cert.Kernel2Ideal.τ Cert.Kernel2Ideal.sig) → Buf (Elt Ideal) ℓ) (c : Dev Cert.Kernel2Ideal.nD)

theorem ref_x1 : Cert.Reference2Ideal.Read.val_main_v76 (F := Ideal)
        (m ((c : Thread Cert.Kernel2Ideal.nD Cert.Kernel2Ideal.τ).loc Cert.Kernel2Ideal.main_arg0))
        (m ((c : Thread Cert.Kernel2Ideal.nD Cert.Kernel2Ideal.τ).loc Cert.Kernel2Ideal.main_arg1))
        (m ((c : Thread Cert.Kernel2Ideal.nD Cert.Kernel2Ideal.τ).loc Cert.Kernel2Ideal.main_arg2))
        (m ((c : Thread Cert.Kernel2Ideal.nD Cert.Kernel2Ideal.τ).loc Cert.Kernel2Ideal.main_arg3))
        (m ((c : Thread Cert.Kernel2Ideal.nD Cert.Kernel2Ideal.τ).loc Cert.Kernel2Ideal.main_arg4))
        (m ((c : Thread Cert.Kernel2Ideal.nD Cert.Kernel2Ideal.τ).loc Cert.Kernel2Ideal.main_arg5))
        (m ((c : Thread Cert.Kernel2Ideal.nD Cert.Kernel2Ideal.τ).loc Cert.Kernel2Ideal.main_arg6)) = kx1Arr m c := by
  funext i
  obtain ⟨R, j, rfl⟩ : ∃ (R : Fin 16384) (j : Fin 1024), i = ix2 R j := ⟨i 0, i 1, eq_ix2 i⟩
  refine (Cert.Reference2Ideal.Mid.v76_apply _ _ _ _ _ _ _ R j).trans ?_
  exact congrFun (Cert.Reference2Ideal.Mid.x1_row _ _ _ _ _ _ _ R) j

theorem ref_h2_row (R : Fin 16384) :
    (fun j : Fin 1024 => (Cert.Reference2Ideal.Read.val_main_v68 (F := Ideal)
        (m ((c : Thread Cert.Kernel2Ideal.nD Cert.Kernel2Ideal.τ).loc Cert.Kernel2Ideal.main_arg0))
        (m ((c : Thread Cert.Kernel2Ideal.nD Cert.Kernel2Ideal.τ).loc Cert.Kernel2Ideal.main_arg1))
        (m ((c : Thread Cert.Kernel2Ideal.nD Cert.Kernel2Ideal.τ).loc Cert.Kernel2Ideal.main_arg2))
        (m ((c : Thread Cert.Kernel2Ideal.nD Cert.Kernel2Ideal.τ).loc Cert.Kernel2Ideal.main_arg3))
        (m ((c : Thread Cert.Kernel2Ideal.nD Cert.Kernel2Ideal.τ).loc Cert.Kernel2Ideal.main_arg4))
        (m ((c : Thread Cert.Kernel2Ideal.nD Cert.Kernel2Ideal.τ).loc Cert.Kernel2Ideal.main_arg5))
        (m ((c : Thread Cert.Kernel2Ideal.nD Cert.Kernel2Ideal.τ).loc Cert.Kernel2Ideal.main_arg6)) : Cert.Reference2Ideal.S8x2048x1024.Idx → EReal) (ix3 (Cert.MidSpec.bOf R) (Cert.MidSpec.qOf R) j)) = kh2 m c R :=
  (Cert.Reference2Ideal.Mid.h2_row _ _ _ _ _ _ _ R).trans
    (congrArg (fun y => Cert.MidSpec.h2At y _ R) (Cert.Reference2Ideal.Mid.x1_row _ _ _ _ _ _ _ R))

theorem ref_h2 : Cert.Reference2Ideal.Read.val_main_v78 (F := Ideal)
        (m ((c : Thread Cert.Kernel2Ideal.nD Cert.Kernel2Ideal.τ).loc Cert.Kernel2Ideal.main_arg0))
        (m ((c : Thread Cert.Kernel2Ideal.nD Cert.Kernel2Ideal.τ).loc Cert.Kernel2Ideal.main_arg1))
        (m ((c : Thread Cert.Kernel2Ideal.nD Cert.Kernel2Ideal.τ).loc Cert.Kernel2Ideal.main_arg2))
        (m ((c : Thread Cert.Kernel2Ideal.nD Cert.Kernel2Ideal.τ).loc Cert.Kernel2Ideal.main_arg3))
        (m ((c : Thread Cert.Kernel2Ideal.nD Cert.Kernel2Ideal.τ).loc Cert.Kernel2Ideal.main_arg4))
        (m ((c : Thread Cert.Kernel2Ideal.nD Cert.Kernel2Ideal.τ).loc Cert.Kernel2Ideal.main_arg5))
        (m ((c : Thread Cert.Kernel2Ideal.nD Cert.Kernel2Ideal.τ).loc Cert.Kernel2Ideal.main_arg6)) = kh2Arr m c := by
  funext i
  obtain ⟨R, j, rfl⟩ : ∃ (R : Fin 16384) (j : Fin 1024), i = ix2 R j := ⟨i 0, i 1, eq_ix2 i⟩
  refine (Cert.Reference2Ideal.Mid.v78_apply _ _ _ _ _ _ _ R j).trans ?_
  exact congrFun (ref_h2_row m c R) j

theorem ref_st : Cert.Reference2Ideal.Read.val_main_v80 (F := Ideal)
        (m ((c : Thread Cert.Kernel2Ideal.nD Cert.Kernel2Ideal.τ).loc Cert.Kernel2Ideal.main_arg0))
        (m ((c : Thread Cert.Kernel2Ideal.nD Cert.Kernel2Ideal.τ).loc Cert.Kernel2Ideal.main_arg1))
        (m ((c : Thread Cert.Kernel2Ideal.nD Cert.Kernel2Ideal.τ).loc Cert.Kernel2Ideal.main_arg2))
        (m ((c : Thread Cert.Kernel2Ideal.nD Cert.Kernel2Ideal.τ).loc Cert.Kernel2Ideal.main_arg3))
        (m ((c : Thread Cert.Kernel2Ideal.nD Cert.Kernel2Ideal.τ).loc Cert.Kernel2Ideal.main_arg4))
        (m ((c : Thread Cert.Kernel2Ideal.nD Cert.Kernel2Ideal.τ).loc Cert.Kernel2Ideal.main_arg5))
        (m ((c : Thread Cert.Kernel2Ideal.nD Cert.Kernel2Ideal.τ).loc Cert.Kernel2Ideal.main_arg6))
        (m ((c : Thread Cert.Kernel2Ideal.nD Cert.Kernel2Ideal.τ).loc Cert.Kernel2Ideal.main_arg7))
        (m ((c : Thread Cert.Kernel2Ideal.nD Cert.Kernel2Ideal.τ).loc Cert.Kernel2Ideal.main_arg8)) = kstArr m c := by
  funext i
  obtain ⟨hp, n, R, rfl⟩ : ∃ (hp : Fin 16) (n : Fin 128) (R : Fin 16384), i = ix3 hp n R := ⟨i 0, i 1, i 2, eq_ix3 i⟩
  refine (Cert.Reference2Ideal.Mid.v80_apply _ _ _ _ _ _ _ _ _ hp n R).trans ?_
  exact congrArg (fun y => Cert.MidSpec.stAt y _ _ hp n) (ref_h2_row m c R)

end

theorem algebraic2 : Cert.algebraic_Kernel2Ideal_Reference2Ideal := by
  intro m g m' g' _ hargs
  refine ⟨fun c => kx1Arr m c, fun c => kh2Arr m c, fun c => kstArr m c, ?_, ?_⟩
  · exact (θ_run Cert.Kernel2Ideal.defs _ _).mono (fun _ h c => ⟨(h c).1.trans (arr11 m c), (h c).2.1.trans (arr12 m c),
      (h c).2.2.1.trans (arr13 m c), (h c).2.2.2⟩) (Cert.Kernel2Ideal.Value.run_blocks m g)
  · refine (θ_run Cert.Reference2Ideal.defs _ _).mono (fun _ h c => ⟨(h c).1.trans ?_, (h c).2.1.trans ?_, (h c).2.2.1.trans ?_, (h c).2.2.2⟩)
      (Cert.Reference2Ideal.Value.run (F := Ideal) m' g')
    all_goals obtain ⟨e0, e1, e2, e3, e4, e5, e6, e7, e8⟩ := hargs c
    · refine (Cert.Reference2Ideal.Read.val_main_v76_eq (F := Ideal) m' c).trans ?_
      rw [e0, e1, e2, e3, e4, e5, e6]
      exact ref_x1 m c
    · refine (Cert.Reference2Ideal.Read.val_main_v78_eq (F := Ideal) m' c).trans ?_
      rw [e0, e1, e2, e3, e4, e5, e6]
      exact ref_h2 m c
    · refine (Cert.Reference2Ideal.Read.val_main_v80_eq (F := Ideal) m' c).trans ?_
      rw [e0, e1, e2, e3, e4, e5, e6, e7, e8]
      exact ref_st m c

end Cert.Proof
-- ==== Proof.ProjRun.lean ====
/- The run of the modulation and the input projection (two pallas_calls between stretches of host operations): the program
   terminates, its arguments are unchanged, every counter is zero, and its result holds what the fold over the segments
   says. Stated over any float values. -/
module

public import proofs.«01_k».proof.Proof.Gen.Kernel3Ideal.Frame

@[expose] public section

set_option maxRecDepth 16384

noncomputable section

namespace Cert.Kernel3Ideal.Proj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: termination, unchanged arguments, counters at zero, and the result array as the fold leaves it. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ (r.2.sem = fun _ => 0)
      ∧ ∀ c : Dev nD, r.2.mem ((c.tc : Thread nD τ).loc main_v9) = W5 m ρ c (Proc.devRef .tc main_v9)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨(h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩), funext fun g => hz g (.inr (no_unscoped g.2)),
      fun c => h c _ (mem_uc main_v9 (by decide))⟩)

end Cert.Kernel3Ideal.Proj

end
-- ==== Proof.ProjBlock.lean ====
/- The row mathematics of the modulation and the input projection, and what one grid step of each call computes. -/
module

public import proofs.«01_k».proof.Proof.MidSpec
public import proofs.«01_k».proof.Proof.Gen.Kernel3Ideal.Skeleton
public import Idealize.ShloMosaic.Lib.Pipeline.ValueKit
public import Idealize.ShloMosaic.Lib.Pipeline.Value
public import Idealize.ShloMosaic.Lib.Pointwise

@[expose] public section

set_option maxRecDepth 16384

noncomputable section

namespace Cert.ProjSpec

open Idealize.ShloMosaic Cert.MidSpec

/-- The sigmoid-weighted unit. -/
def silu (x : EReal) : EReal := x * Ideal.div 1 (1 + Ideal.exp (-x))

/-- A row of conditioning through the unit, times a matrix, plus a bias: one column of the modulation. -/
def adaCol (c w : Fin 1024 → EReal) (b : EReal) : EReal := (∑ k : Fin 1024, silu (c k) * w k) + b

/-- The projection of one token: the norm of its row, modulated, times the input matrix. -/
def projRow (x sc sh : Fin 1024 → EReal) (w : Fin 1024 → Fin 3072 → EReal) : Fin 3072 → EReal := rowMul (modulate (norm x) sc sh) w

end Cert.ProjSpec

namespace Cert.Kernel3Ideal.Proj

open Cert.Kernel3Ideal Cert.Kernel3Ideal.Gen Cert.MidSpec Cert.ProjSpec
open Idealize.ShloMosaic Idealize.ShloMosaic.TcCoe Idealize.ShloMosaic.Tactic
open Idealize.SL.Sem

theorem ada_apply (x0 : Vec Ideal S8x1024 .f32) (x1 : Vec Ideal S1024x1024 .f32) (x2 : Vec Ideal S1x1024 .f32) (b : Fin 8) (j : Fin 1024) :
    k0_pay1 x0 x1 x2 (ix2 b j) = adaCol (fun k => x0 (ix2 b k)) (fun k => x1 (ix2 k j)) (x2 (ix2 0 j)) := by
  pointwise [k0_pay1]
  rfl

theorem proj_apply (x0 : Vec Ideal S512x1024 .f32) (x1 x2 : Vec Ideal S1x1x1x1024 .f32) (x3 : Vec Ideal S1024x3072 .bf16) (r : Fin 512) (j : Fin 3072) :
    k1_pay1 x0 x1 x2 x3 (ix2 r j)
      = projRow (fun j => x0 (ix2 r j)) (fun j => x1 (ix4 0 0 0 j)) (fun j => x2 (ix4 0 0 0 j)) (fun k j => x3 (ix2 k j)) j := by
  pointwise [k1_pay1]
  rfl

end Cert.Kernel3Ideal.Proj
-- ==== Proof.ProjArr.lean ====
/- What the two calls leave in their result arrays, and the result of the whole program as a function of its arguments. -/
module

public import proofs.«01_k».proof.Proof.ProjRun
public import proofs.«01_k».proof.Proof.ProjBlock

@[expose] public section

set_option maxRecDepth 16384

noncomputable section

namespace Cert.Kernel3Ideal.Proj

open Cert.Kernel3Ideal Cert.Kernel3Ideal.Gen Cert.MidSpec Cert.ProjSpec
open Idealize.ShloMosaic Idealize.ShloMosaic.TcCoe Idealize.ShloMosaic.Tactic
open Idealize.SL.Sem

/-! ## Where each window's block stands -/

theorem ix0_0 : ∀ t : Fin cfg0.N, win0_0.index t = ![0, 0] := (by decide +kernel : ∀ t : Fin grid0.N, win0_0.index t = ![0, 0])
theorem ix0_1 : ∀ t : Fin cfg0.N, win0_1.index t = ![0, t.val] := (by decide +kernel : ∀ t : Fin grid0.N, win0_1.index t = ![0, t.val])
theorem ix0_2 : ∀ t : Fin cfg0.N, win0_2.index t = ![0, t.val] := (by decide +kernel : ∀ t : Fin grid0.N, win0_2.index t = ![0, t.val])
theorem ix0_3 : ∀ t : Fin cfg0.N, win0_3.index t = ![0, t.val] := (by decide +kernel : ∀ t : Fin grid0.N, win0_3.index t = ![0, t.val])
theorem ix1_0 : ∀ t : Fin cfg1.N, win1_0.index t = ![t.val, 0] := (by decide +kernel : ∀ t : Fin grid1.N, win1_0.index t = ![t.val, 0])
theorem ix1_1 : ∀ t : Fin cfg1.N, win1_1.index t = ![t.val / 4, 1, 0, 0] := (by decide +kernel : ∀ t : Fin grid1.N, win1_1.index t = ![t.val / 4, 1, 0, 0])
theorem ix1_2 : ∀ t : Fin cfg1.N, win1_2.index t = ![t.val / 4, 0, 0, 0] := (by decide +kernel : ∀ t : Fin grid1.N, win1_2.index t = ![t.val / 4, 0, 0, 0])
theorem ix1_3 : ∀ t : Fin cfg1.N, win1_3.index t = ![0, 0] := (by decide +kernel : ∀ t : Fin grid1.N, win1_3.index t = ![0, 0])
theorem ix1_4 : ∀ t : Fin cfg1.N, win1_4.index t = ![t.val, 0] := (by decide +kernel : ∀ t : Fin grid1.N, win1_4.index t = ![t.val, 0])

/-! ## The blocks -/

section
variable (V : (c : Dev nD) → (b : Ref sig .tc) → Buf (Elt Ideal) ((c : Thread nD τ).loc b)) (c : Dev nD)

theorem blk0_0 (t : Fin cfg0.N) (b : Fin 8) (k : Fin 1024) : iblk0 V c 0 t (ix2 b k) = (V c main_arg1 : S8x1024.Idx → EReal) (ix2 b k) := by
  blk_ext [iblk0, ix0_0]
theorem blk0_1 (t : Fin cfg0.N) (k j : Fin 1024) (l : Fin 6144) (h : l.val = 1024 * t.val + j.val) :
    iblk0 V c 1 t (ix2 k j) = (V c main_v0 : S1024x6144.Idx → EReal) (ix2 k l) := by
  blk_ext [iblk0, ix0_1]
theorem blk0_2 (t : Fin cfg0.N) (j : Fin 1024) (l : Fin 6144) (h : l.val = 1024 * t.val + j.val) :
    iblk0 V c 2 t (ix2 0 j) = (V c main_v2 : S1x6144.Idx → EReal) (ix2 0 l) := by
  blk_ext [iblk0, ix0_2]
theorem emb0_3 (t : Fin cfg0.N) (b : Fin 8) (j : Fin 1024) (l : Fin 6144) (h : l.val = 1024 * t.val + j.val) :
    (win0_3.blk t).view.emb (ix2 b j) = ix2 b l := by
  blk_ext [ix0_3]

theorem blk1_0 (t : Fin cfg1.N) (r : Fin 512) (k : Fin 1024) (R : Fin 16384) (h : R.val = 512 * t.val + r.val) :
    iblk1 V c 0 t (ix2 r k) = (V c main_v5 : S16384x1024.Idx → EReal) (ix2 R k) := by
  blk_ext [iblk1, ix1_0]
theorem blk1_1 (t : Fin cfg1.N) (j : Fin 1024) (b : Fin 8) (h : b.val = t.val / 4) :
    iblk1 V c 1 t (ix4 0 0 0 j) = (V c main_v4 : S8x6x1x1024.Idx → EReal) (ix4 b 1 0 j) := by
  blk_ext [iblk1, ix1_1]
theorem blk1_2 (t : Fin cfg1.N) (j : Fin 1024) (b : Fin 8) (h : b.val = t.val / 4) :
    iblk1 V c 2 t (ix4 0 0 0 j) = (V c main_v4 : S8x6x1x1024.Idx → EReal) (ix4 b 0 0 j) := by
  blk_ext [iblk1, ix1_2]
theorem blk1_3 (t : Fin cfg1.N) (k : Fin 1024) (j : Fin 3072) : iblk1 V c 3 t (ix2 k j) = (V c main_v7 : S1024x3072.Idx → EReal) (ix2 k j) := by
  blk_ext [iblk1, ix1_3]
theorem emb1_4 (t : Fin cfg1.N) (r : Fin 512) (j : Fin 3072) (R : Fin 16384) (h : R.val = 512 * t.val + r.val) :
    (win1_4.blk t).view.emb (ix2 r j) = ix2 R j := by
  blk_ext [ix1_4]

/-! ## The modulation's array -/

theorem out0_open (x0 : Vec Ideal S8x1024 .f32) (x1 : Vec Ideal S1024x1024 .f32) (x2 : Vec Ideal S1x1024 .f32) : out0_3 x0 x1 x2 = k0_pay1 x0 x1 x2 := by
  unfold out0_3
  frame_out

theorem out1_open (x0 : Vec Ideal S512x1024 .f32) (x1 x2 : Vec Ideal S1x1x1x1024 .f32) (x3 : Vec Ideal S1024x3072 .bf16) : out1_4 x0 x1 x2 x3 = k1_pay1 x0 x1 x2 x3 := by
  unfold out1_4
  frame_out

/-- The modulation, from the conditioning, the matrix and the bias row. -/
def adaArr (cc : S8x1024.Idx → EReal) (w : S1024x6144.Idx → EReal) (bias : S1x6144.Idx → EReal) : S8x6144.Idx → EReal :=
  fun i => adaCol (fun k => cc (ix2 (i 0) k)) (fun k => w (ix2 k (i 1))) (bias (ix2 0 (i 1)))

theorem adaArr_apply (cc : S8x1024.Idx → EReal) (w : S1024x6144.Idx → EReal) (bias : S1x6144.Idx → EReal) (b : Fin 8) (l : Fin 6144) :
    adaArr cc w bias (ix2 b l) = adaCol (fun k => cc (ix2 b k)) (fun k => w (ix2 k l)) (bias (ix2 0 l)) := rfl

theorem arr0_3 : (dat0 V c).arrAt 3 cfg0.N = adaArr (V c main_arg1) (V c main_v0) (V c main_v2) := by
  refine (dat0 V c).arrAt_eq_of_covers 3 _ (by decide +kernel) fun t hf y => ?_
  blk_simp
  rw [after0_3, out0_open]
  obtain ⟨b, j, rfl⟩ : ∃ (b : Fin 8) (j : Fin 1024), y = ix2 b j := ⟨y 0, y 1, eq_ix2 (y : S8x1024.Idx)⟩
  have ht : t.val < 6 := t.isLt
  have hj := j.isLt
  refine (ada_apply _ _ _ b j).trans ?_
  refine Eq.trans ?_ (congrArg _ (emb0_3 t b j ⟨1024 * t.val + j.val, by omega⟩ rfl)).symm
  simp only [blk0_0, blk0_1 V c t _ j ⟨1024 * t.val + j.val, by omega⟩ rfl, blk0_2 V c t j ⟨1024 * t.val + j.val, by omega⟩ rfl]
  rfl

/-! ## The projection's array -/

/-- The projection of flat tokens, from the flat rows, the modulation by parts and the matrix. -/
def projArr (x : S16384x1024.Idx → EReal) (md : S8x6x1x1024.Idx → EReal) (w : S1024x3072.Idx → EReal) : S16384x3072.Idx → EReal :=
  fun i => projRow (fun j => x (ix2 (i 0) j)) (fun j => md (ix4 (bOf (i 0)) 1 0 j)) (fun j => md (ix4 (bOf (i 0)) 0 0 j)) (fun k j => w (ix2 k j)) (i 1)

theorem projArr_apply (x : S16384x1024.Idx → EReal) (md : S8x6x1x1024.Idx → EReal) (w : S1024x3072.Idx → EReal) (R : Fin 16384) (j : Fin 3072) :
    projArr x md w (ix2 R j) = projRow (fun j => x (ix2 R j)) (fun j => md (ix4 (bOf R) 1 0 j)) (fun j => md (ix4 (bOf R) 0 0 j)) (fun k j => w (ix2 k j)) j := rfl

theorem arr1_4 : (dat1 V c).arrAt 4 cfg1.N = projArr (V c main_v5) (V c main_v4) (V c main_v7) := by
  refine (dat1 V c).arrAt_eq_of_covers 4 _ (by decide +kernel) fun t hf y => ?_
  blk_simp
  rw [after1_4, out1_open]
  obtain ⟨r, j, rfl⟩ : ∃ (r : Fin 512) (j : Fin 3072), y = ix2 r j := ⟨y 0, y 1, eq_ix2 (y : S512x3072.Idx)⟩
  have ht : t.val < 32 := t.isLt
  have hr := r.isLt
  have hb : (bOf ⟨512 * t.val + r.val, by omega⟩).val = t.val / 4 := by
    show (512 * t.val + r.val) / 2048 = t.val / 4
    omega
  refine (proj_apply _ _ _ _ r j).trans ?_
  refine Eq.trans ?_ (congrArg _ (emb1_4 t r j ⟨512 * t.val + r.val, by omega⟩ rfl)).symm
  simp only [blk1_0 V c t r _ ⟨512 * t.val + r.val, by omega⟩ rfl, blk1_1 V c t _ _ hb, blk1_2 V c t _ _ hb, blk1_3]
  rfl

end

/-! ## Re-shaped arrays read at an index -/

theorem flatX (a : S8x2048x1024.Idx → EReal) (R : Fin 16384) (k : Fin 1024) :
    shapeCast S16384x1024 a shapeCasts_S8x2048x1024_S16384x1024 (ix2 R k) = a (ix3 (bOf R) (qOf R) k) := by
  refine shapeCast_apply _ _ _ _ ?_
  rw [Shape.rowMajor_val_three, Shape.rowMajor_val_two]
  show ((R.val / 2048) * 2048 + R.val % 2048) * 1024 + k.val = R.val * 1024 + k.val
  omega

theorem sixParts (a : S8x6144.Idx → EReal) (b : Fin 8) (p : Fin 6) (j : Fin 1024) :
    shapeCast S8x6x1x1024 a shapeCasts_S8x6144_S8x6x1x1024 (ix4 b p 0 j) = a (ix2 b (part p j)) := by
  refine shapeCast_apply _ _ _ _ ?_
  rw [Shape.rowMajor_val_two, Shape.rowMajor_val_four]
  show b.val * 6144 + (1024 * p.val + j.val) = ((b.val * 6 + p.val) * 1 + 0) * 1024 + j.val
  omega

theorem unflat (a : S16384x3072.Idx → EReal) (b : Fin 8) (q : Fin 2048) (j : Fin 3072) :
    shapeCast S8x2048x3072 a shapeCasts_S16384x3072_S8x2048x3072 (ix3 b q j) = a (ix2 ⟨2048 * b.val + q.val, by omega⟩ j) := by
  refine shapeCast_apply _ _ _ _ ?_
  rw [Shape.rowMajor_val_two, Shape.rowMajor_val_three]
  show (2048 * b.val + q.val) * 3072 + j.val = (b.val * 2048 + q.val) * 3072 + j.val
  omega

theorem dropAda (a : S1x1024x6144.Idx → EReal) (k : Fin 1024) (l : Fin 6144) :
    shapeCast S1024x6144 a shapeCasts_S1x1024x6144_S1024x6144 (ix2 k l) = a (ix3 0 k l) := by pointwise

theorem dropIn (a : S1x1024x3072.Idx → EReal) (k : Fin 1024) (l : Fin 3072) :
    shapeCast S1024x3072 a shapeCasts_S1x1024x3072_S1024x3072 (ix2 k l) = a (ix3 0 k l) := by pointwise

theorem dropBias (a : S1x6144.Idx → EReal) (l : Fin 6144) :
    broadcastInDim S1x6144 ![1] bcast_S6144_S1x6144_1 (shapeCast S6144 a shapeCasts_S1x6144_S6144) (ix2 0 l) = a (ix2 0 l) := by pointwise

/-! ## The whole program -/

variable (m : (ℓ : Loc nD τ sig) → Buf (Elt Ideal) ℓ) (ρ : Dev nD → PrngReg) (c : Dev nD)

theorem V1_v0 : (V1 m ρ c main_v0 : S1024x6144.Idx → EReal) = shapeCast S1024x6144 (m ((c : Thread nD τ).loc main_arg2) : S1x1024x6144.Idx → EReal) shapeCasts_S1x1024x6144_S1024x6144 := rfl
theorem V1_v2 : (V1 m ρ c main_v2 : S1x6144.Idx → EReal)
    = broadcastInDim S1x6144 ![1] bcast_S6144_S1x6144_1 (shapeCast S6144 (m ((c : Thread nD τ).loc main_arg3) : S1x6144.Idx → EReal) shapeCasts_S1x6144_S6144) := rfl

/-- The modulation of a batch, from the arguments. -/
def mod (b : Fin 8) (l : Fin 6144) : EReal :=
  adaCol (fun k => (m ((c : Thread nD τ).loc main_arg1) : S8x1024.Idx → EReal) (ix2 b k))
    (fun k => (m ((c : Thread nD τ).loc main_arg2) : S1x1024x6144.Idx → EReal) (ix3 0 k l))
    ((m ((c : Thread nD τ).loc main_arg3) : S1x6144.Idx → EReal) (ix2 0 l))

theorem W2_v3 (b : Fin 8) (l : Fin 6144) : (W2 m ρ c (Proc.devRef .tc main_v3) : S8x6144.Idx → EReal) (ix2 b l) = mod m c b l := by
  have e : W2 m ρ c (Proc.devRef .tc main_v3) = adaArr (V1 m ρ c main_arg1) (V1 m ρ c main_v0) (V1 m ρ c main_v2) :=
    (W2_arr m ρ c 3).trans (arr0_3 (V1 m ρ) c)
  have a1 : V1 m ρ c main_arg1 = m ((c : Thread nD τ).loc main_arg1) := W1_args m ρ c main_arg1 (by decide)
  rw [e, a1, V1_v0, V1_v2]
  refine (adaArr_apply _ _ _ b l).trans ?_
  exact congrArg₂ (fun w z => adaCol _ w z) (funext fun k => dropAda _ k l) (dropBias _ l)

theorem V3_v4 : (V3 m ρ c main_v4 : S8x6x1x1024.Idx → EReal)
    = shapeCast S8x6x1x1024 (W2 m ρ c (Proc.devRef .tc main_v3) : S8x6144.Idx → EReal) shapeCasts_S8x6144_S8x6x1x1024 := rfl
theorem V3_v5 : (V3 m ρ c main_v5 : S16384x1024.Idx → EReal)
    = shapeCast S16384x1024 (W2 m ρ c (Proc.devRef .tc main_arg0) : S8x2048x1024.Idx → EReal) shapeCasts_S8x2048x1024_S16384x1024 := rfl
theorem V3_v7 : (V3 m ρ c main_v7 : S1024x3072.Idx → EReal)
    = shapeCast S1024x3072 (W2 m ρ c (Proc.devRef .tc main_arg4) : S1x1024x3072.Idx → EReal) shapeCasts_S1x1024x3072_S1024x3072 := rfl
theorem W5_v9 : (W5 m ρ c (Proc.devRef .tc main_v9) : S8x2048x3072.Idx → EReal)
    = shapeCast S8x2048x3072 (W4 m ρ c (Proc.devRef .tc main_v8) : S16384x3072.Idx → EReal) shapeCasts_S16384x3072_S8x2048x3072 := rfl

/-- The result array, from the arguments. -/
def outArr : S8x2048x3072.Idx → EReal := fun i =>
  projRow (fun j => (m ((c : Thread nD τ).loc main_arg0) : S8x2048x1024.Idx → EReal) (ix3 (i 0) (i 1) j))
    (fun j => mod m c (i 0) (part 1 j)) (fun j => mod m c (i 0) (part 0 j))
    (fun k j => (m ((c : Thread nD τ).loc main_arg4) : S1x1024x3072.Idx → EReal) (ix3 0 k j)) (i 2)

theorem result : W5 m ρ c (Proc.devRef .tc main_v9) = outArr m c := by
  have e : W4 m ρ c (Proc.devRef .tc main_v8) = projArr (V3 m ρ c main_v5) (V3 m ρ c main_v4) (V3 m ρ c main_v7) :=
    (W4_arr m ρ c 4).trans (arr1_4 (V3 m ρ) c)
  have a0 : W2 m ρ c (Proc.devRef .tc main_arg0) = m ((c : Thread nD τ).loc main_arg0) := W2_args m ρ c main_arg0 (by decide)
  have a4 : W2 m ρ c (Proc.devRef .tc main_arg4) = m ((c : Thread nD τ).loc main_arg4) := W2_args m ρ c main_arg4 (by decide)
  funext i
  obtain ⟨b, q, j, rfl⟩ : ∃ (b : Fin 8) (q : Fin 2048) (j : Fin 3072), i = ix3 b q j := ⟨i 0, i 1, i 2, eq_ix3 (i : S8x2048x3072.Idx)⟩
  refine (congrFun (W5_v9 m ρ c) _).trans ((unflat _ b q j).trans ?_)
  rw [e, V3_v4, V3_v5, V3_v7, a0, a4]
  have hq := q.isLt
  have hB : bOf ⟨2048 * b.val + q.val, by omega⟩ = b := Fin.ext (by show (2048 * b.val + q.val) / 2048 = b.val; omega)
  have hQ : qOf ⟨2048 * b.val + q.val, by omega⟩ = q := Fin.ext (by show (2048 * b.val + q.val) % 2048 = q.val; omega)
  refine (projArr_apply _ _ _ _ j).trans ?_
  rw [hB]
  refine congrFun (congr (congr (congr (congrArg projRow (funext fun k => (flatX _ _ k).trans ?_)) (funext fun k => (sixParts _ b 1 k).trans (W2_v3 m ρ c b _)))
    (funext fun k => (sixParts _ b 0 k).trans (W2_v3 m ρ c b _))) (funext fun k => funext fun l => dropIn _ k l)) j
  rw [hB, hQ]
  rfl

end Cert.Kernel3Ideal.Proj
-- ==== Proof.ProjRef.lean ====
/- The reference's modulation and projection, read at an index, as the same row mathematics. -/
module

public import proofs.«01_k».proof.Proof.ProjBlock
public import proofs.«01_k».proof.Proof.Gen.Reference3Ideal.Read
public import Idealize.ShloMosaic.Lib.Pipeline.ValueKit
public import Idealize.ShloMosaic.Lib.Pipeline.Value
public import Idealize.ShloMosaic.Lib.Pointwise

@[expose] public section

set_option maxRecDepth 16384

noncomputable section

namespace Cert.Reference3Ideal.Proj

open Cert.Reference3Ideal Cert.Reference3Ideal.Gen Cert.Reference3Ideal.Read Cert.MidSpec Cert.ProjSpec
open Idealize.ShloMosaic Idealize.ShloMosaic.TcCoe Idealize.ShloMosaic.Tactic

variable (x0 : S8x2048x1024.Idx → EReal) (x1 : S8x1024.Idx → EReal) (x2 : S1x1024x6144.Idx → EReal) (x3 : S1x6144.Idx → EReal) (x4 : S1x1024x3072.Idx → EReal)

theorem v6_apply (b : Fin 8) (l : Fin 6144) :
    (val_main_v6 (F := Ideal) x1 x2 x3 : S8x6144.Idx → EReal) (ix2 b l)
      = adaCol (fun k => x1 (ix2 b k)) (fun k => x2 (ix3 0 k l)) (x3 (ix2 0 l)) := by
  pointwise [val_main_v6, val_main_v5, val_main_v4, val_main_v3, val_main_v2, val_main_v1, val_main_v0, val_main_call0_v5, val_main_call0_v4,
    val_main_call0_cst_0, val_main_call0_v3, val_main_call0_v2, val_main_call0_cst, val_main_call0_v1, val_main_call0_v0]
  rfl

theorem v31_apply (b : Fin 8) (q : Fin 2048) (j : Fin 1024) :
    (val_main_v31 (F := Ideal) x0 : S8x2048x1024.Idx → EReal) (ix3 b q j) = norm (fun j => x0 (ix3 b q j)) j := by
  pointwise [val_main_v31, val_main_v30, val_main_v29, val_main_v28, val_main_v27, val_main_v26, val_main_v25, val_main_v24, val_main_v23,
    val_main_v22, val_main_v21, val_main_v20, val_main_v19, val_main_v18, val_main_v17, val_main_v16, val_main_v15, val_main_v14,
    val_main_cst, val_main_cst_0, val_main_cst_1, val_main_cst_2, val_main_cst_3]
  rfl

theorem v37_apply (b : Fin 8) (q : Fin 2048) (j : Fin 1024) :
    (val_main_v37 (F := Ideal) x0 x1 x2 x3 : S8x2048x1024.Idx → EReal) (ix3 b q j)
      = modulate (fun j => (val_main_v31 (F := Ideal) x0 : S8x2048x1024.Idx → EReal) (ix3 b q j))
          (fun j => (val_main_v6 (F := Ideal) x1 x2 x3 : S8x6144.Idx → EReal) (ix2 b (part 1 j)))
          (fun j => (val_main_v6 (F := Ideal) x1 x2 x3 : S8x6144.Idx → EReal) (ix2 b (part 0 j))) j := by
  unfold val_main_v37 val_main_v36 val_main_v35 val_main_v34 val_main_v33 val_main_v9 val_main_v8 val_main_v7
  generalize val_main_v31 (F := Ideal) x0 = y
  generalize val_main_v6 (F := Ideal) x1 x2 x3 = z
  pointwise [val_main_v32, val_main_cst_4]
  unfold modulate
  refine congrArg₂ (fun a b => y _ * (1 + a) + b) (congrArg (fun l => z (ix2 b l)) (Fin.ext ?_)) (congrArg (fun l => z (ix2 b l)) (Fin.ext ?_))
  · show 1024 + j.val = 1024 * 1 + j.val
    omega
  · show j.val = 1024 * 0 + j.val
    omega

theorem v40_apply (b : Fin 8) (q : Fin 2048) (j : Fin 3072) :
    (val_main_v40 (F := Ideal) x0 x1 x2 x3 x4 : S8x2048x3072.Idx → EReal) (ix3 b q j)
      = projRow (fun j => x0 (ix3 b q j))
          (fun j => adaCol (fun k => x1 (ix2 b k)) (fun k => x2 (ix3 0 k (part 1 j))) (x3 (ix2 0 (part 1 j))))
          (fun j => adaCol (fun k => x1 (ix2 b k)) (fun k => x2 (ix3 0 k (part 0 j))) (x3 (ix2 0 (part 0 j))))
          (fun k j => x4 (ix3 0 k j)) j := by
  have e : (val_main_v40 (F := Ideal) x0 x1 x2 x3 x4 : S8x2048x3072.Idx → EReal) (ix3 b q j)
      = rowMul (fun j => (val_main_v37 (F := Ideal) x0 x1 x2 x3 : S8x2048x1024.Idx → EReal) (ix3 b q j)) (fun k j => x4 (ix3 0 k j)) j := by
    unfold val_main_v40 val_main_v39 val_main_v38
    generalize val_main_v37 (F := Ideal) x0 x1 x2 x3 = y
    pointwise
    rfl
  rw [e]
  refine congrArg (fun y => rowMul y (fun k j => x4 (ix3 0 k j)) j) (funext fun j => ?_)
  refine (v37_apply x0 x1 x2 x3 b q j).trans ?_
  simp only [v31_apply, v6_apply]

end Cert.Reference3Ideal.Proj
-- ==== Proof.ProjClaim.lean ====
/- The modulation and input projection's claims: the frames of the program, of its ideal reading and of its reference, and
   the equation of their results. -/
module

public import proofs.«01_k».proof.Defs
public import proofs.«01_k».proof.Proof.ProjArr
public import proofs.«01_k».proof.Proof.ProjRef
public import proofs.«01_k».proof.Proof.Gen.Kernel3
public import proofs.«01_k».proof.Proof.Gen.Kernel3.Frame

@[expose] public section

set_option maxRecDepth 16384

noncomputable section

namespace Cert.Proof

open Idealize.ShloMosaic Idealize.ShloMosaic.TcCoe Idealize.SL.Sem
open Cert.Kernel3Ideal.Proj

theorem frame_kernel3 : Cert.quiescent_Kernel3 := fun m ρ _ => Cert.Kernel3.Gen.frame m ρ

theorem frame_ideal3 : Cert.quiescent_Kernel3Ideal := fun m ρ _ => Cert.Kernel3Ideal.Gen.frame m ρ

theorem frame_reference3 : Cert.quiescent_Reference3Ideal := fun m ρ _ =>
  (θ_run Cert.Reference3Ideal.defs _ _).mono (fun r h => ⟨fun c => (h c).2, sem_eq_zero_of_no_sems (by decide) r.2⟩) (Cert.Reference3Ideal.Value.run (F := Ideal) m ρ)

/-- The reference's result is the kernel's, at the kernel's arguments. -/
theorem ref_proj (m : (ℓ : Loc Cert.Kernel3Ideal.nD Cert.Kernel3Ideal.τ Cert.Kernel3Ideal.sig) → Buf (Elt Ideal) ℓ) (c : Dev Cert.Kernel3Ideal.nD) :
    Cert.Reference3Ideal.Read.val_main_v40 (F := Ideal)
        (m ((c : Thread Cert.Kernel3Ideal.nD Cert.Kernel3Ideal.τ).loc Cert.Kernel3Ideal.main_arg0))
        (m ((c : Thread Cert.Kernel3Ideal.nD Cert.Kernel3Ideal.τ).loc Cert.Kernel3Ideal.main_arg1))
        (m ((c : Thread Cert.Kernel3Ideal.nD Cert.Kernel3Ideal.τ).loc Cert.Kernel3Ideal.main_arg2))
        (m ((c : Thread Cert.Kernel3Ideal.nD Cert.Kernel3Ideal.τ).loc Cert.Kernel3Ideal.main_arg3))
        (m ((c : Thread Cert.Kernel3Ideal.nD Cert.Kernel3Ideal.τ).loc Cert.Kernel3Ideal.main_arg4)) = outArr m c := by
  funext i
  obtain ⟨b, q, j, rfl⟩ : ∃ (b : Fin 8) (q : Fin 2048) (j : Fin 3072), i = ix3 b q j := ⟨i 0, i 1, i 2, eq_ix3 i⟩
  exact Cert.Reference3Ideal.Proj.v40_apply _ _ _ _ _ b q j

theorem algebraic3 : Cert.algebraic_Kernel3Ideal_Reference3Ideal := by
  intro m g m' g' _ hargs
  refine ⟨fun c => outArr m c, ?_, ?_⟩
  · exact (θ_run Cert.Kernel3Ideal.defs _ _).mono (fun _ h c => ⟨(h.2.2 c).trans (result m g c), h.1 c⟩) (run_main (F := Ideal) m g)
  · refine (θ_run Cert.Reference3Ideal.defs _ _).mono (fun _ h c => ⟨(h c).1.trans ?_, (h c).2⟩) (Cert.Reference3Ideal.Value.run (F := Ideal) m' g')
    obtain ⟨e0, e1, e2, e3, e4⟩ := hargs c
    refine (Cert.Reference3Ideal.Read.val_main_v40_eq (F := Ideal) _ _ _ _ _).trans ?_
    rw [e0, e1, e2, e3, e4]
    exact ref_proj m c

end Cert.Proof
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.DiffRun
public import proofs.«01_k».proof.Proof.DiffEq
public import proofs.«01_k».proof.Proof.Pre
public import proofs.«01_k».proof.Proof.FrameKernel
public import proofs.«01_k».proof.Proof.MidClaim
public import proofs.«01_k».proof.Proof.ProjClaim

@[expose] public section

noncomputable section

namespace Cert.Proof

open Idealize.ShloMosaic Idealize.SL.Sem

local instance : Cert.Pre_finite_scores.Facts := Cert.Pre_finite_scores.facts

theorem frame_ideal : Cert.quiescent_KernelIdeal := fun m ρ _ =>
  (θ_run Cert.KernelIdeal.defs _ _).mono (fun _ h => ⟨h.1, h.2.1⟩) (Cert.KernelIdeal.DiffRun.run_main (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

theorem algebraic : Cert.algebraic_KernelIdeal_ReferenceIdeal_pre_finite_scores := by
  intro m g m' g' hpre hargs
  refine ⟨fun c => Cert.KernelIdeal.DiffRun.W3 m g c (Proc.devRef .tc Cert.KernelIdeal.main_v2), ?_, ?_⟩
  · refine (θ_run Cert.KernelIdeal.defs _ _).mono (fun _ h c => ⟨h.2.2 c, h.1 c⟩) (Cert.KernelIdeal.DiffRun.run_main (F := Ideal) m g)
  · refine (θ_run Cert.ReferenceIdeal.defs _ _).mono (fun _ h c => ⟨(h c).1.trans ?_, (h c).2⟩) (Cert.ReferenceIdeal.Value.run (F := Ideal) m' g')
    obtain ⟨e0, e1, e2, e3, e4, e5, e6⟩ := hargs c
    refine (Cert.ReferenceIdeal.Read.val_main_v101_eq (F := Ideal) (StableHlo.launchContents m' c)).trans ?_
    refine Eq.trans ?_ (Cert.KernelIdeal.DiffRun.W3_v2 m g c).symm
    refine Eq.trans ?_ (Cert.KernelIdeal.DiffRun.result_eq _ (m ((c.tc : Thread Cert.KernelIdeal.nD Cert.KernelIdeal.τ).loc Cert.KernelIdeal.main_arg1)) _ _ _ _ _ _
      (Cert.KernelIdeal.DiffRun.flat_table m g c) (Cert.Pre_finite_scores.qk_fin _ _ _ _ _ _ _ (hpre c).1) (Cert.Pre_finite_scores.bias_fin _ _ _ _ _ _ _ (hpre c).2)).symm
    show Cert.ReferenceIdeal.Read.val_main_v101 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) = _
    rw [e0, e1, e2, e3, e4, e5, e6]

/-- The neighbourhood attention with its bias table ends without a fault and leaves its arguments. -/
theorem frame_kernel4 : Cert.quiescent_Kernel4 := fun m ρ _ => Cert.Kernel4.Gen.frame m ρ

theorem frame_ideal4 : Cert.quiescent_Kernel4Ideal := fun m ρ _ => Cert.Kernel4Ideal.Gen.frame m ρ

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Pre_finite_scores.facts,
  Cert.Proof.frame_kernel, frame_ideal, fun m ρ _ => frame_ideal m ρ trivial,
  frame_reference, fun m ρ _ => frame_reference m ρ trivial,
  frame_kernel2, frame_ideal2, frame_reference2,
  frame_kernel3, frame_ideal3, frame_reference3,
  frame_kernel4, frame_ideal4,
  trivial, algebraic, trivial, algebraic2, trivial, algebraic3, trivial⟩

end Cert.Proof

end
